-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_tame_KernelIdeal [hPre_tame_KernelIdeal : Cert.Pre_tame_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_tame_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_tame_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_tame_ReferenceIdeal [hPre_tame_ReferenceIdeal : Cert.Pre_tame_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_tame_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_tame_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_tame_KernelIdeal [hKernelIdeal : Cert.KernelIdeal.Facts] [hPre_tame_KernelIdeal : Cert.Pre_tame_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_tame_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_tame_ReferenceIdeal [hReferenceIdeal : Cert.ReferenceIdeal.Facts] [hPre_tame_ReferenceIdeal : Cert.Pre_tame_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_tame_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_on_exact [hKernelIdeal : Cert.KernelIdeal.Facts] [hReferenceIdeal : Cert.ReferenceIdeal.Facts] [hOn_exact : Cert.On_exact.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![1024, 4096]⟩ ⟨2, ![4096, 4096]⟩ 0 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![4096, 2048]⟩ ⟨2, ![4096, 8192]⟩ 1 4 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)) →
    ∃ (v0 : Buf (Elt Ideal) (((0 : Dev Cert.ReferenceIdeal.nD).tc : Thread Cert.ReferenceIdeal.nD Cert.ReferenceIdeal.τ).loc Cert.ReferenceIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨2, ![4096, 2048]⟩ : Shape).Idx, (Layout.block ⟨2, ![4096, 2048]⟩ ⟨2, ![4096, 8192]⟩ 1 4 c ((Cert.On_exact.fn (F := Ideal) (m' (((0 : Dev Cert.ReferenceIdeal.nD).tc : Thread Cert.ReferenceIdeal.nD Cert.ReferenceIdeal.τ).loc Cert.ReferenceIdeal.main_arg0)) (m' (((0 : Dev Cert.ReferenceIdeal.nD).tc : Thread Cert.ReferenceIdeal.nD Cert.ReferenceIdeal.τ).loc Cert.ReferenceIdeal.main_arg1)) (m' (((0 : Dev Cert.ReferenceIdeal.nD).tc : Thread Cert.ReferenceIdeal.nD Cert.ReferenceIdeal.τ).loc Cert.ReferenceIdeal.main_arg2)) (m' (((0 : Dev Cert.ReferenceIdeal.nD).tc : Thread Cert.ReferenceIdeal.nD Cert.ReferenceIdeal.τ).loc Cert.ReferenceIdeal.main_arg3)))) : (⟨2, ![4096, 2048]⟩ : Shape).Idx → _) i = 1#1 → r.2.mem ((c.tc : Thread Cert.KernelIdeal.nD Cert.KernelIdeal.τ).loc Cert.KernelIdeal.main_v1) i = (Layout.block ⟨2, ![4096, 2048]⟩ ⟨2, ![4096, 8192]⟩ 1 4 c v0 : (⟨2, ![4096, 2048]⟩ : Shape).Idx → _) i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          (∀ i : (⟨2, ![4096, 8192]⟩ : Shape).Idx, (Cert.On_exact.fn (F := Ideal) (m' (((0 : Dev Cert.ReferenceIdeal.nD).tc : Thread Cert.ReferenceIdeal.nD Cert.ReferenceIdeal.τ).loc Cert.ReferenceIdeal.main_arg0)) (m' (((0 : Dev Cert.ReferenceIdeal.nD).tc : Thread Cert.ReferenceIdeal.nD Cert.ReferenceIdeal.τ).loc Cert.ReferenceIdeal.main_arg1)) (m' (((0 : Dev Cert.ReferenceIdeal.nD).tc : Thread Cert.ReferenceIdeal.nD Cert.ReferenceIdeal.τ).loc Cert.ReferenceIdeal.main_arg2)) (m' (((0 : Dev Cert.ReferenceIdeal.nD).tc : Thread Cert.ReferenceIdeal.nD Cert.ReferenceIdeal.τ).loc Cert.ReferenceIdeal.main_arg3))) i = 1#1 → r.2.mem (((0 : Dev Cert.ReferenceIdeal.nD).tc : Thread Cert.ReferenceIdeal.nD Cert.ReferenceIdeal.τ).loc Cert.ReferenceIdeal.main_v10) i = v0 i)
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def algebraic_KernelIdeal_ReferenceIdeal_pre_tame_KernelIdeal [hKernelIdeal : Cert.KernelIdeal.Facts] [hReferenceIdeal : Cert.ReferenceIdeal.Facts] [hPre_tame_KernelIdeal : Cert.Pre_tame_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_tame_KernelIdeal m →
    (∀ c : Dev Cert.KernelIdeal.nD,
      m ((c.tc : Thread Cert.KernelIdeal.nD Cert.KernelIdeal.τ).loc Cert.KernelIdeal.main_arg0) = Layout.block ⟨2, ![1024, 4096]⟩ ⟨2, ![4096, 4096]⟩ 0 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![4096, 2048]⟩ ⟨2, ![4096, 8192]⟩ 1 4 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)) →
    ∃ (v0 : Buf (Elt Ideal) (((0 : Dev Cert.ReferenceIdeal.nD).tc : Thread Cert.ReferenceIdeal.nD Cert.ReferenceIdeal.τ).loc Cert.ReferenceIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![4096, 2048]⟩ ⟨2, ![4096, 8192]⟩ 1 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v10) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_tame_KernelIdeal : Cert.Pre_tame_KernelIdeal.Facts) (hPre_tame_ReferenceIdeal : Cert.Pre_tame_ReferenceIdeal.Facts) (hOn_exact : Cert.On_exact.Facts),
    quiescent_Kernel (hKernel := hKernel)
    ∧ quiescent_KernelIdeal (hKernelIdeal := hKernelIdeal)
    ∧ quiescent_KernelIdeal_pre_tame_KernelIdeal (hKernelIdeal := hKernelIdeal) (hPre_tame_KernelIdeal := hPre_tame_KernelIdeal)
    ∧ quiescent_ReferenceIdeal (hReferenceIdeal := hReferenceIdeal)
    ∧ quiescent_ReferenceIdeal_pre_tame_ReferenceIdeal (hReferenceIdeal := hReferenceIdeal) (hPre_tame_ReferenceIdeal := hPre_tame_ReferenceIdeal)
    ∧ preserves_Kernel_KernelIdeal
    ∧ algebraic_KernelIdeal_ReferenceIdeal_on_exact (hKernelIdeal := hKernelIdeal) (hReferenceIdeal := hReferenceIdeal) (hOn_exact := hOn_exact)
    ∧ algebraic_KernelIdeal_ReferenceIdeal_pre_tame_KernelIdeal (hKernelIdeal := hKernelIdeal) (hReferenceIdeal := hReferenceIdeal) (hPre_tame_KernelIdeal := hPre_tame_KernelIdeal)
-- ==== On_exact.lean ====
abbrev S4096x4096 : Shape := ⟨2, ![4096, 4096]⟩
abbrev S4096x8192 : Shape := ⟨2, ![4096, 8192]⟩
abbrev S1 : Shape := ⟨1, ![1]⟩
abbrev S_ : Shape := ⟨0, ![]⟩

class Facts : Prop where
  natLt_8_32 : 8 < 32
  bcast_S_S4096x8192 : S_.BroadcastsInDim S4096x8192 (![] : Fin 0 → Fin S4096x8192.rank)
  dot_S4096x4096_S4096x8192_S4096x8192_1_0_0_1_n_n_wf : DotDims.WF S4096x4096 S4096x8192 S4096x8192 [1] [0] [0] [1] [] []

variable [Facts]

def dot_S4096x4096_S4096x8192_S4096x8192_1_0_0_1_n_n : DotDims S4096x4096 S4096x8192 S4096x8192 where
  lhsContracting := [1]
  rhsContracting := [0]
  lhsNonContracting := [0]
  rhsNonContracting := [1]
  lhsBatch := []
  rhsBatch := []
  wf := dot_S4096x4096_S4096x8192_S4096x8192_1_0_0_1_n_n_wf
def fn {F : FTy → Type} [FloatOps F] (main_arg0 : IVec S4096x4096 8) (main_arg1 : IVec S4096x8192 8) (main_arg2 : FVec F S1 .f32) (main_arg3 : FVec F S1 .f32) : IVec S4096x8192 1 :=
  let main_v0 : IVec S4096x4096 32 := (extsi 32 · natLt_8_32) main_arg0
  let main_v1 : FVec F S4096x4096 .f32 := sitofp .f32 main_v0
  let main_v2 : FVec F S4096x4096 .f32 := Host.absf main_v1
  let main_v3 : IVec S4096x8192 32 := (extsi 32 · natLt_8_32) main_arg1
  let main_v4 : FVec F S4096x8192 .f32 := sitofp .f32 main_v3
  let main_v5 : FVec F S4096x8192 .f32 := Host.absf main_v4
  let main_v6 : FVec F S4096x8192 .f32 := (fun l r => Host.dotGeneral dot_S4096x4096_S4096x8192_S4096x8192_1_0_0_1_n_n none l r) main_v2 main_v5
  let main_cst : FVec F S_ .f32 := constant S_ .f32 0x4B800000#32
  let main_v7 : FVec F S4096x8192 .f32 := broadcastInDim S4096x8192 ![] bcast_S_S4096x8192 main_cst
  let main_v8 : IVec S4096x8192 1 := cmpf .olt main_v6 main_v7
  main_v8
-- ==== Pre_tame_KernelIdeal.lean ====
abbrev S1024x4096 : Shape := ⟨2, ![1024, 4096]⟩
abbrev S4096x2048 : Shape := ⟨2, ![4096, 2048]⟩
abbrev S1 : Shape := ⟨1, ![1]⟩
abbrev S_ : Shape := ⟨0, ![]⟩
abbrev S1024 : Shape := ⟨1, ![1024]⟩
abbrev S2048 : Shape := ⟨1, ![2048]⟩

class Facts : Prop where
  natLt_8_32 : 8 < 32
  reducesTo_S1024x4096_S1024_d1 : S1024x4096.ReducesTo [1] S1024
  h_S_ : 0 < S_.numel
  bcast_S_S1024 : S_.BroadcastsInDim S1024 (![] : Fin 0 → Fin S1024.rank)
  reducesTo_S4096x2048_S2048_d0 : S4096x2048.ReducesTo [0] S2048
  bcast_S_S2048 : S_.BroadcastsInDim S2048 (![] : Fin 0 → Fin S2048.rank)

variable [Facts]

def fn {F : FTy → Type} [FloatOps F] (main_arg0 : IVec S1024x4096 8) (main_arg1 : IVec S4096x2048 8) (main_arg2 : FVec F S1 .f32) (main_arg3 : FVec F S1 .f32) : IVec S1024 1 × IVec S2048 1 :=
  let main_v0 : IVec S1024x4096 32 := (extsi 32 · natLt_8_32) main_arg0
  let main_v1 : FVec F S1024x4096 .f32 := sitofp .f32 main_v0
  let main_v2 : IVec S4096x2048 32 := (extsi 32 · natLt_8_32) main_arg1
  let main_v3 : FVec F S4096x2048 .f32 := sitofp .f32 main_v2
  let main_v4 : FVec F S1024x4096 .f32 := mulf main_v1 main_v1
  let main_cst : FVec F S_ .f32 := constant S_ .f32 0x00000000#32
  let main_v5 : FVec F S1024 .f32 := (fun x v => Host.reduceAdd x v reducesTo_S1024x4096_S1024_d1 h_S_) main_v4 main_cst
  let main_cst_0 : FVec F S_ .f32 := constant S_ .f32 0x4B800000#32
  let main_v6 : FVec F S1024 .f32 := broadcastInDim S1024 ![] bcast_S_S1024 main_cst_0
  let main_v7 : IVec S1024 1 := cmpf .olt main_v5 main_v6
  let main_v8 : FVec F S4096x2048 .f32 := mulf main_v3 main_v3
  let main_cst_1 : FVec F S_ .f32 := constant S_ .f32 0x00000000#32
  let main_v9 : FVec F S2048 .f32 := (fun x v => Host.reduceAdd x v reducesTo_S4096x2048_S2048_d0 h_S_) main_v8 main_cst_1
  let main_cst_2 : FVec F S_ .f32 := constant S_ .f32 0x4B800000#32
  let main_v10 : FVec F S2048 .f32 := broadcastInDim S2048 ![] bcast_S_S2048 main_cst_2
  let main_v11 : IVec S2048 1 := cmpf .olt main_v9 main_v10
  (main_v7, main_v11)
-- ==== Pre_tame_ReferenceIdeal.lean ====
abbrev S4096x4096 : Shape := ⟨2, ![4096, 4096]⟩
abbrev S4096x8192 : Shape := ⟨2, ![4096, 8192]⟩
abbrev S1 : Shape := ⟨1, ![1]⟩
abbrev S_ : Shape := ⟨0, ![]⟩
abbrev S4096 : Shape := ⟨1, ![4096]⟩
abbrev S8192 : Shape := ⟨1, ![8192]⟩

class Facts : Prop where
  natLt_8_32 : 8 < 32
  reducesTo_S4096x4096_S4096_d1 : S4096x4096.ReducesTo [1] S4096
  h_S_ : 0 < S_.numel
  bcast_S_S4096 : S_.BroadcastsInDim S4096 (![] : Fin 0 → Fin S4096.rank)
  reducesTo_S4096x8192_S8192_d0 : S4096x8192.ReducesTo [0] S8192
  bcast_S_S8192 : S_.BroadcastsInDim S8192 (![] : Fin 0 → Fin S8192.rank)

variable [Facts]

def fn {F : FTy → Type} [FloatOps F] (main_arg0 : IVec S4096x4096 8) (main_arg1 : IVec S4096x8192 8) (main_arg2 : FVec F S1 .f32) (main_arg3 : FVec F S1 .f32) : IVec S4096 1 × IVec S8192 1 :=
  let main_v0 : IVec S4096x4096 32 := (extsi 32 · natLt_8_32) main_arg0
  let main_v1 : FVec F S4096x4096 .f32 := sitofp .f32 main_v0
  let main_v2 : IVec S4096x8192 32 := (extsi 32 · natLt_8_32) main_arg1
  let main_v3 : FVec F S4096x8192 .f32 := sitofp .f32 main_v2
  let main_v4 : FVec F S4096x4096 .f32 := mulf main_v1 main_v1
  let main_cst : FVec F S_ .f32 := constant S_ .f32 0x00000000#32
  let main_v5 : FVec F S4096 .f32 := (fun x v => Host.reduceAdd x v reducesTo_S4096x4096_S4096_d1 h_S_) main_v4 main_cst
  let main_cst_0 : FVec F S_ .f32 := constant S_ .f32 0x4B800000#32
  let main_v6 : FVec F S4096 .f32 := broadcastInDim S4096 ![] bcast_S_S4096 main_cst_0
  let main_v7 : IVec S4096 1 := cmpf .olt main_v5 main_v6
  let main_v8 : FVec F S4096x8192 .f32 := mulf main_v3 main_v3
  let main_cst_1 : FVec F S_ .f32 := constant S_ .f32 0x00000000#32
  let main_v9 : FVec F S8192 .f32 := (fun x v => Host.reduceAdd x v reducesTo_S4096x8192_S8192_d0 h_S_) main_v8 main_cst_1
  let main_cst_2 : FVec F S_ .f32 := constant S_ .f32 0x4B800000#32
  let main_v10 : FVec F S8192 .f32 := broadcastInDim S8192 ![] bcast_S_S8192 main_cst_2
  let main_v11 : IVec S8192 1 := cmpf .olt main_v9 main_v10
  (main_v7, main_v11)
-- ==== Kernel.lean ====
abbrev S1024x4096 : Shape := ⟨2, ![1024, 4096]⟩
abbrev S4096x2048 : Shape := ⟨2, ![4096, 2048]⟩
abbrev S1 : Shape := ⟨1, ![1]⟩
abbrev S2x512x4096 : Shape := ⟨3, ![2, 512, 4096]⟩
abbrev S4x256x4096 : Shape := ⟨3, ![4, 256, 4096]⟩
abbrev S2x256x2048 : Shape := ⟨3, ![2, 256, 2048]⟩
abbrev S8 : Shape := ⟨1, ![8]⟩
abbrev S2 : Shape := ⟨1, ![2]⟩
abbrev S_ : Shape := ⟨0, ![]⟩
abbrev S1x512x4096 : Shape := ⟨3, ![1, 512, 4096]⟩
abbrev S512x4096 : Shape := ⟨2, ![512, 4096]⟩
abbrev S256x4096 : Shape := ⟨2, ![256, 4096]⟩
abbrev S256x2048 : Shape := ⟨2, ![256, 2048]⟩
abbrev S1x256x2048 : Shape := ⟨3, ![1, 256, 2048]⟩
abbrev S1x256x4096 : Shape := ⟨3, ![1, 256, 4096]⟩

abbrev nBuf : Space → Nat
  | .hbm => 5
  | .vmem => 6
  | .smem => 2
  | _ => 0

abbrev bufTy : (tb : Table) → Fin (tcTables nBuf tb) → BufTy
  | .hbm, ⟨0, _⟩ => ⟨S1024x4096, .i8⟩
  | .hbm, ⟨1, _⟩ => ⟨S4096x2048, .i8⟩
  | .hbm, ⟨2, _⟩ => ⟨S1, .f32⟩
  | .hbm, ⟨3, _⟩ => ⟨S1, .f32⟩
  | .hbm, ⟨4, _⟩ => ⟨S4096x2048, .f32⟩
  | .local _ .vmem, ⟨0, _⟩ => ⟨S1024x4096, .i8⟩
  | .local _ .vmem, ⟨1, _⟩ => ⟨S4096x2048, .i8⟩
  | .local _ .vmem, ⟨2, _⟩ => ⟨S2x512x4096, .i8⟩
  | .local _ .vmem, ⟨3, _⟩ => ⟨S2x512x4096, .i8⟩
  | .local _ .vmem, ⟨4, _⟩ => ⟨S4x256x4096, .i8⟩
  | .local _ .vmem, ⟨5, _⟩ => ⟨S2x256x2048, .f32⟩
  | .local _ .smem, ⟨0, _⟩ => ⟨S1, .f32⟩
  | .local _ .smem, ⟨1, _⟩ => ⟨S1, .f32⟩
  | _, _ => ⟨S1024x4096, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .smem, ⟨0, _⟩ => true
  | .smem, ⟨1, _⟩ => true
  | _, _ => false

abbrev semScoped : Fin 1 → Bool
  | ⟨0, _⟩ => false
  | _ => false

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  (ofTc nBuf bufTy 1 22 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_scratch3 : Ref sig .tc := ⟨.vmem, 5, rfl⟩
abbrev cc0_stg2_0 : Ref sig .tc := ⟨.smem, 0, rfl⟩
abbrev cc0_stg3_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v3 : BitVec 32 := Scalar.addi v2 c3_i32
  let c4_i32_0 : BitVec 32 := 4#32
  let v4 : BitVec 32 := Scalar.remsi v3 c4_i32_0
  let c1_i32_5 : BitVec 32 := 1#32
  let v10 : BitVec 32 := Scalar.muli v4 c1_i32_5
  let v11 : BitVec 32 := Scalar.addi c0_i32 v10
  v11.toNat
def k0_dev2 (d0 : Dev nD) : Nat :=
  let c0_i32_8 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v5 : BitVec 32 := Scalar.addi v2 c1_i32_1
  let c4_i32_2 : BitVec 32 := 4#32
  let v6 : BitVec 32 := Scalar.remsi v5 c4_i32_2
  let c1_i32_7 : BitVec 32 := 1#32
  let v12 : BitVec 32 := Scalar.muli v6 c1_i32_7
  let v13 : BitVec 32 := Scalar.addi c0_i32_8 v12
  v13.toNat
def k0_dev3 (d0 : Dev nD) : Nat :=
  let c0_i32_15 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v5 : BitVec 32 := Scalar.addi v2 c1_i32_1
  let c4_i32_2 : BitVec 32 := 4#32
  let v6 : BitVec 32 := Scalar.remsi v5 c4_i32_2
  let c1_i32_14 : BitVec 32 := 1#32
  let v17 : BitVec 32 := Scalar.muli v6 c1_i32_14
  let v18 : BitVec 32 := Scalar.addi c0_i32_15 v17
  v18.toNat
def k0_dev4 (d0 : Dev nD) : Nat :=
  let c0_i32_24 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v5 : BitVec 32 := Scalar.addi v2 c1_i32_1
  let c4_i32_2 : BitVec 32 := 4#32
  let v6 : BitVec 32 := Scalar.remsi v5 c4_i32_2
  let c1_i32_23 : BitVec 32 := 1#32
  let v26 : BitVec 32 := Scalar.muli v6 c1_i32_23
  let v27 : BitVec 32 := Scalar.addi c0_i32_24 v26
  v27.toNat
def k0_dev5 (d0 : Dev nD) : Nat :=
  let c0_i32_32 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v3 : BitVec 32 := Scalar.addi v2 c3_i32
  let c4_i32_0 : BitVec 32 := 4#32
  let v4 : BitVec 32 := Scalar.remsi v3 c4_i32_0
  let c1_i32_31 : BitVec 32 := 1#32
  let v35 : BitVec 32 := Scalar.muli v4 c1_i32_31
  let v36 : BitVec 32 := Scalar.addi c0_i32_32 v35
  v36.toNat
def k0_dev6 (d0 : Dev nD) : Nat :=
  let c0_i32_41 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v3 : BitVec 32 := Scalar.addi v2 c3_i32
  let c4_i32_0 : BitVec 32 := 4#32
  let v4 : BitVec 32 := Scalar.remsi v3 c4_i32_0
  let c1_i32_40 : BitVec 32 := 1#32
  let v44 : BitVec 32 := Scalar.muli v4 c1_i32_40
  let v45 : BitVec 32 := Scalar.addi c0_i32_41 v44
  v45.toNat
def k0_off1 (d0 : Dev nD) (c0_i32_54 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1024_i32 : BitVec 32 := 1024#32
  let v53 : BitVec 32 := Scalar.muli v2 c1024_i32
  let v67 : BitVec 32 := Scalar.addi v53 c0_i32_54
  let c0_i32_57 : BitVec 32 := 0#32
  ![v67.toNat, 0]
def k0_dev7 (d0 : Dev nD) : Nat :=
  let c0_i32_123 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v5 : BitVec 32 := Scalar.addi v2 c1_i32_1
  let c4_i32_2 : BitVec 32 := 4#32
  let v6 : BitVec 32 := Scalar.remsi v5 c4_i32_2
  let c1_i32_122 : BitVec 32 := 1#32
  let v147 : BitVec 32 := Scalar.muli v6 c1_i32_122
  let v148 : BitVec 32 := Scalar.addi c0_i32_123 v147
  v148.toNat
def k0_dev8 (d0 : Dev nD) : Nat :=
  let c0_i32_132 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v5 : BitVec 32 := Scalar.addi v2 c1_i32_1
  let c4_i32_2 : BitVec 32 := 4#32
  let v6 : BitVec 32 := Scalar.remsi v5 c4_i32_2
  let c1_i32_131 : BitVec 32 := 1#32
  let v157 : BitVec 32 := Scalar.muli v6 c1_i32_131
  let v158 : BitVec 32 := Scalar.addi c0_i32_132 v157
  v158.toNat
def k0_off2 (d0 : Dev nD) (c3_i32 : BitVec 32) (c0_i32_155 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v3 : BitVec 32 := Scalar.addi v2 c3_i32
  let c4_i32_0 : BitVec 32 := 4#32
  let v4 : BitVec 32 := Scalar.remsi v3 c4_i32_0
  let c1024_i32_137 : BitVec 32 := 1024#32
  let v167 : BitVec 32 := Scalar.muli v4 c1024_i32_137
  let v187 : BitVec 32 := Scalar.addi v167 c0_i32_155
  let c0_i32_158 : BitVec 32 := 0#32
  ![v187.toNat, 0]
def k0_off2_at (r : Fin 5) : BitVec 32 × BitVec 32 :=
  if r.val < 2 then
    if r.val < 1 then
      (3#32, 0#32)
    else
      (3#32, 256#32)
  else
    if r.val < 3 then
      (1#32, 0#32)
    else
      if r.val < 4 then
        (1#32, 256#32)
      else
        (2#32, 0#32)
def k0_dev9 (d0 : Dev nD) : Nat :=
  let c0_i32_253 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v3 : BitVec 32 := Scalar.addi v2 c3_i32
  let c4_i32_0 : BitVec 32 := 4#32
  let v4 : BitVec 32 := Scalar.remsi v3 c4_i32_0
  let c1_i32_252 : BitVec 32 := 1#32
  let v283 : BitVec 32 := Scalar.muli v4 c1_i32_252
  let v284 : BitVec 32 := Scalar.addi c0_i32_253 v283
  v284.toNat
def k0_dev10 (d0 : Dev nD) : Nat :=
  let c0_i32_262 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v3 : BitVec 32 := Scalar.addi v2 c3_i32
  let c4_i32_0 : BitVec 32 := 4#32
  let v4 : BitVec 32 := Scalar.remsi v3 c4_i32_0
  let c1_i32_261 : BitVec 32 := 1#32
  let v293 : BitVec 32 := Scalar.muli v4 c1_i32_261
  let v294 : BitVec 32 := Scalar.addi c0_i32_262 v293
  v294.toNat
def k0_off3 (d0 : Dev nD) (c3_i32 : BitVec 32) (c512_i32_277 : BitVec 32) (c0_i32_295 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v3 : BitVec 32 := Scalar.addi v2 c3_i32
  let c4_i32_0 : BitVec 32 := 4#32
  let v4 : BitVec 32 := Scalar.remsi v3 c4_i32_0
  let c1024_i32_276 : BitVec 32 := 1024#32
  let v310 : BitVec 32 := Scalar.muli v4 c1024_i32_276
  let v311 : BitVec 32 := Scalar.addi v310 c512_i32_277
  let v331 : BitVec 32 := Scalar.addi v311 c0_i32_295
  let c0_i32_298 : BitVec 32 := 0#32
  ![v331.toNat, 0]
def k0_off3_at (r : Fin 6) : BitVec 32 × BitVec 32 × BitVec 32 :=
  if r.val < 3 then
    if r.val < 1 then
      (3#32, 512#32, 0#32)
    else
      if r.val < 2 then
        (3#32, 512#32, 256#32)
      else
        (1#32, 512#32, 0#32)
  else
    if r.val < 4 then
      (1#32, 512#32, 256#32)
    else
      if r.val < 5 then
        (2#32, 512#32, 0#32)
      else
        (2#32, 256#32, 0#32)
def k0_off4 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v7 : BitVec 32 := Scalar.addi v2 c2_i32
  let c4_i32_3 : BitVec 32 := 4#32
  let v8 : BitVec 32 := Scalar.remsi v7 c4_i32_3
  let c1024_i32_486 : BitVec 32 := 1024#32
  let v526 : BitVec 32 := Scalar.muli v8 c1024_i32_486
  let c512_i32_487 : BitVec 32 := 512#32
  let v527 : BitVec 32 := Scalar.addi v526 c512_i32_487
  let c256_i32_488 : BitVec 32 := 256#32
  let v528 : BitVec 32 := Scalar.addi v527 c256_i32_488
  let c0_i32_506 : BitVec 32 := 0#32
  let v548 : BitVec 32 := Scalar.addi v528 c0_i32_506
  let c0_i32_509 : BitVec 32 := 0#32
  ![v548.toNat, 0]
abbrev stage0_0 : Fin 1 → Memref sig .tc .vmem S1024x4096 .i8 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x2048 .i8 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .smem S1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S4096x4096 : Shape := ⟨2, ![4096, 4096]⟩
abbrev S4096x8192 : Shape := ⟨2, ![4096, 8192]⟩
abbrev S1 : Shape := ⟨1, ![1]⟩
abbrev S1x1 : Shape := ⟨2, ![1, 1]⟩
abbrev S_ : Shape := ⟨0, ![]⟩

abbrev nBuf : Space → Nat
  | .hbm => 16
  | .vmem => 0
  | .smem => 0
  | _ => 0

abbrev bufTy : (tb : Table) → Fin (tcTables nBuf tb) → BufTy
  | .hbm, ⟨0, _⟩ => ⟨S4096x4096, .i8⟩
  | .hbm, ⟨1, _⟩ => ⟨S4096x8192, .i8⟩
  | .hbm, ⟨2, _⟩ => ⟨S1, .f32⟩
  | .hbm, ⟨3, _⟩ => ⟨S1, .f32⟩
  | .hbm, ⟨4, _⟩ => ⟨S4096x4096, .i32⟩
  | .hbm, ⟨5, _⟩ => ⟨S4096x4096, .f32⟩
  | .hbm, ⟨6, _⟩ => ⟨S4096x8192, .i32⟩
  | .hbm, ⟨7, _⟩ => ⟨S4096x8192, .f32⟩
  | .hbm, ⟨8, _⟩ => ⟨S4096x8192, .f32⟩
  | .hbm, ⟨9, _⟩ => ⟨S1, .f32⟩
  | .hbm, ⟨10, _⟩ => ⟨S1x1, .f32⟩
  | .hbm, ⟨11, _⟩ => ⟨S4096x8192, .f32⟩
  | .hbm, ⟨12, _⟩ => ⟨S4096x8192, .f32⟩
  | .hbm, ⟨13, _⟩ => ⟨S_, .f32⟩
  | .hbm, ⟨14, _⟩ => ⟨S4096x8192, .f32⟩
  | .hbm, ⟨15, _⟩ => ⟨S4096x8192, .f32⟩
  | _, _ => ⟨S4096x4096, .i8⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst : Ref sig .tc := ⟨.hbm, 13, rfl⟩
abbrev main_v9 : Ref sig .tc := ⟨.hbm, 14, rfl⟩
abbrev main_v10 : Ref sig .tc := ⟨.hbm, 15, rfl⟩

abbrev nD : Nat := 1
abbrev τ : Topo := Topo.v7x

variable {F : FTy → Type} [FloatOps F]
-- ==== Proof.Base.lean ====
/-
The two-way ring all-gather fused with an int8 matrix product on four devices: the mesh, the buffers and their
slots, the semaphore cells, what each buffer holds, and the schedule of the cells.

Each device sends its two 512-row halves of `x` to both neighbours; a half that arrives from the left is passed on
to the right and the other way round, in quarters of 256 rows, so that every device sees all rows. Every 256-row
block is multiplied into its own window of the result as it arrives.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Transfers
public import Idealize.ShloMosaic.Lib.Tactic

@[expose] public section

noncomputable section

namespace Cert.Gather

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's cells, the ring's cells, the counters of the local copies -/

abbrev UB : Type := URounds (GSem nD τ sig) Bool
abbrev UU : Type := UR sig nD τ × (UB × Counters)

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := (Emb.inl : Emb UB (UB × Counters)).trans embR
abbrev EC : UEmb Counters (MT nD τ sig Unit (Elt F) ℕ UU ℕ) := countersEmb

variable (m : (ℓ : Loc nD τ sig) → Buf (Elt F) ℓ) (ρ : Dev nD → PrngReg)

/-- The memory at launch: arbitrary contents, every counter zero, arbitrary generator registers. -/
abbrev st₀ : MemSt nD τ sig (Elt F) := ⟨m, fun _ => 0, ρ⟩

/-! ## The ring -/

set_option backward.proofsInPublic true in
def nxt (c : Dev nD) : Dev nD := ⟨(c.val + 1) % 4, Nat.mod_lt _ (by decide)⟩
set_option backward.proofsInPublic true in
def prv (c : Dev nD) : Dev nD := ⟨(c.val + 3) % 4, Nat.mod_lt _ (by decide)⟩
set_option backward.proofsInPublic true in
def opp (c : Dev nD) : Dev nD := ⟨(c.val + 2) % 4, Nat.mod_lt _ (by decide)⟩

theorem prv_nxt (c : Dev nD) : prv (nxt c) = c := by revert c; decide
theorem nxt_prv (c : Dev nD) : nxt (prv c) = c := by revert c; decide
theorem prv_prv (c : Dev nD) : prv (prv c) = opp c := by revert c; decide
theorem nxt_nxt (c : Dev nD) : nxt (nxt c) = opp c := by revert c; decide
theorem opp_nxt (c : Dev nD) : opp (nxt c) = prv c := by revert c; decide
theorem opp_prv (c : Dev nD) : opp (prv c) = nxt c := by revert c; decide

theorem dev1_eq (c : Dev nD) : (⟨k0_dev1 c, k0_dev1_lt c⟩ : Dev nD) = prv c := Fin.ext (k0_dev1_eq c)
theorem dev2_eq (c : Dev nD) : (⟨k0_dev2 c, k0_dev2_lt c⟩ : Dev nD) = nxt c := Fin.ext (k0_dev2_eq c)
theorem dev3_eq (c : Dev nD) : (⟨k0_dev3 c, k0_dev3_lt c⟩ : Dev nD) = nxt c := Fin.ext (k0_dev3_eq c)
theorem dev4_eq (c : Dev nD) : (⟨k0_dev4 c, k0_dev4_lt c⟩ : Dev nD) = nxt c := Fin.ext (k0_dev4_eq c)
theorem dev5_eq (c : Dev nD) : (⟨k0_dev5 c, k0_dev5_lt c⟩ : Dev nD) = prv c := Fin.ext (k0_dev5_eq c)
theorem dev6_eq (c : Dev nD) : (⟨k0_dev6 c, k0_dev6_lt c⟩ : Dev nD) = prv c := Fin.ext (k0_dev6_eq c)
theorem dev7_eq (c : Dev nD) : (⟨k0_dev7 c, k0_dev7_lt c⟩ : Dev nD) = nxt c := Fin.ext (k0_dev7_eq c)
theorem dev8_eq (c : Dev nD) : (⟨k0_dev8 c, k0_dev8_lt c⟩ : Dev nD) = nxt c := Fin.ext (k0_dev8_eq c)
theorem dev9_eq (c : Dev nD) : (⟨k0_dev9 c, k0_dev9_lt c⟩ : Dev nD) = prv c := Fin.ext (k0_dev9_eq c)
theorem dev10_eq (c : Dev nD) : (⟨k0_dev10 c, k0_dev10_lt c⟩ : Dev nD) = prv c := Fin.ext (k0_dev10_eq c)

def ring : Dev nD ≃ Dev nD := ⟨nxt, prv, prv_nxt, nxt_prv⟩

/-! ## The memrefs -/

abbrev xM : Memref sig .tc .vmem S1024x4096 .i8 := Memref.whole cc0_stg0_0
abbrev wM : Memref sig .tc .vmem S4096x2048 .i8 := Memref.whole cc0_stg1_0
abbrev aM : Memref sig .tc .smem S1 .f32 := Memref.whole cc0_stg2_0
abbrev bM : Memref sig .tc .smem S1 .f32 := Memref.whole cc0_stg3_0
abbrev zM : Memref sig .tc .hbm S4096x2048 .f32 := Memref.whole main_v1
abbrev lM : Memref sig .tc .vmem S2x512x4096 .i8 := Memref.whole cc0_scratch0
abbrev rM : Memref sig .tc .vmem S2x512x4096 .i8 := Memref.whole cc0_scratch1
abbrev oM : Memref sig .tc .vmem S4x256x4096 .i8 := Memref.whole cc0_scratch2
abbrev yM : Memref sig .tc .vmem S2x256x2048 .f32 := Memref.whole cc0_scratch3

/-- The two halves of the `x` block; -/
abbrev x0 : Memref sig .tc .vmem S512x4096 .i8 := xM.slice (Rect.unit (s := S1024x4096) ![0, 0] S512x4096.size inb_S1024x4096_S512x4096_0_0) (fun _ => rfl)
abbrev x1 : Memref sig .tc .vmem S512x4096 .i8 := xM.slice (Rect.unit (s := S1024x4096) ![512, 0] S512x4096.size inb_S1024x4096_S512x4096_512_0) (fun _ => rfl)
/-- the slots of the buffers of halves, from the left and from the right; -/
abbrev l0 : Memref sig .tc .vmem S512x4096 .i8 := (lM.slice (Rect.unit (s := S2x512x4096) ![0, 0, 0] S1x512x4096.size inb_S2x512x4096_S1x512x4096_0_0_0) (fun _ => rfl)).squeeze S512x4096 squeezes_S1x512x4096_S512x4096
abbrev l1 : Memref sig .tc .vmem S512x4096 .i8 := (lM.slice (Rect.unit (s := S2x512x4096) ![1, 0, 0] S1x512x4096.size inb_S2x512x4096_S1x512x4096_1_0_0) (fun _ => rfl)).squeeze S512x4096 squeezes_S1x512x4096_S512x4096
abbrev r0 : Memref sig .tc .vmem S512x4096 .i8 := (rM.slice (Rect.unit (s := S2x512x4096) ![0, 0, 0] S1x512x4096.size inb_S2x512x4096_S1x512x4096_0_0_0) (fun _ => rfl)).squeeze S512x4096 squeezes_S1x512x4096_S512x4096
abbrev r1 : Memref sig .tc .vmem S512x4096 .i8 := (rM.slice (Rect.unit (s := S2x512x4096) ![1, 0, 0] S1x512x4096.size inb_S2x512x4096_S1x512x4096_1_0_0) (fun _ => rfl)).squeeze S512x4096 squeezes_S1x512x4096_S512x4096
/-- the quarters passed on; -/
abbrev l00 : Memref sig .tc .vmem S256x4096 .i8 := (lM.slice (Rect.unit (s := S2x512x4096) ![0, 0, 0] S1x256x4096.size inb_S2x512x4096_S1x256x4096_0_0_0) (fun _ => rfl)).squeeze S256x4096 squeezes_S1x256x4096_S256x4096
abbrev l01 : Memref sig .tc .vmem S256x4096 .i8 := (lM.slice (Rect.unit (s := S2x512x4096) ![0, 256, 0] S1x256x4096.size inb_S2x512x4096_S1x256x4096_0_256_0) (fun _ => rfl)).squeeze S256x4096 squeezes_S1x256x4096_S256x4096
abbrev r10 : Memref sig .tc .vmem S256x4096 .i8 := (rM.slice (Rect.unit (s := S2x512x4096) ![1, 0, 0] S1x256x4096.size inb_S2x512x4096_S1x256x4096_1_0_0) (fun _ => rfl)).squeeze S256x4096 squeezes_S1x256x4096_S256x4096
abbrev r11 : Memref sig .tc .vmem S256x4096 .i8 := (rM.slice (Rect.unit (s := S2x512x4096) ![1, 256, 0] S1x256x4096.size inb_S2x512x4096_S1x256x4096_1_256_0) (fun _ => rfl)).squeeze S256x4096 squeezes_S1x256x4096_S256x4096
/-- the slots of the buffer of quarters from the opposite device; -/
abbrev o0 : Memref sig .tc .vmem S256x4096 .i8 := (oM.slice (Rect.unit (s := S4x256x4096) ![0, 0, 0] S1x256x4096.size inb_S4x256x4096_S1x256x4096_0_0_0) (fun _ => rfl)).squeeze S256x4096 squeezes_S1x256x4096_S256x4096
abbrev o1 : Memref sig .tc .vmem S256x4096 .i8 := (oM.slice (Rect.unit (s := S4x256x4096) ![1, 0, 0] S1x256x4096.size inb_S4x256x4096_S1x256x4096_1_0_0) (fun _ => rfl)).squeeze S256x4096 squeezes_S1x256x4096_S256x4096
abbrev o2 : Memref sig .tc .vmem S256x4096 .i8 := (oM.slice (Rect.unit (s := S4x256x4096) ![2, 0, 0] S1x256x4096.size inb_S4x256x4096_S1x256x4096_2_0_0) (fun _ => rfl)).squeeze S256x4096 squeezes_S1x256x4096_S256x4096
abbrev o3 : Memref sig .tc .vmem S256x4096 .i8 := (oM.slice (Rect.unit (s := S4x256x4096) ![3, 0, 0] S1x256x4096.size inb_S4x256x4096_S1x256x4096_3_0_0) (fun _ => rfl)).squeeze S256x4096 squeezes_S1x256x4096_S256x4096
/-- the two slots a result block leaves from. -/
abbrev y0 : Memref sig .tc .vmem S256x2048 .f32 := (yM.slice (Rect.unit (s := S2x256x2048) ![0, 0, 0] S1x256x2048.size inb_S2x256x2048_S1x256x2048_0_0_0) (fun _ => rfl)).squeeze S256x2048 squeezes_S1x256x2048_S256x2048
abbrev y1 : Memref sig .tc .vmem S256x2048 .f32 := (yM.slice (Rect.unit (s := S2x256x2048) ![1, 0, 0] S1x256x2048.size inb_S2x256x2048_S1x256x2048_1_0_0) (fun _ => rfl)).squeeze S256x2048 squeezes_S1x256x2048_S256x2048

theorem out_inb (d : Dev nD) (k : Fin 4) : ∀ a, (![1024 * d.val + 256 * k.val, 0] : Fin 2 → ℕ) a + S256x2048.size a ≤ S4096x2048.size a := by
  revert d k; decide +kernel
/-- The window of the result that holds rows `256k …` of device `d`'s block. -/
abbrev outR (d : Dev nD) (k : Fin 4) : Rect S4096x2048 := Rect.unit (s := S4096x2048) ![1024 * d.val + 256 * k.val, 0] S256x2048.size (out_inb d k)
abbrev outW (d : Dev nD) (k : Fin 4) : Memref sig .tc .hbm S256x2048 .f32 := zM.slice (outR d k) (fun _ => rfl)

/-! ## The cells -/

abbrev barS : Sem sig := (SemArray.scalar (sig.barrier 0 rfl) : Sems sig S_).sem
def sendS (i : Fin 8) : DmaSem sig := (⟨4 + i.val, by have := i.isLt; omega⟩ : Fin 22)
def recvS (i : Fin 8) : DmaSem sig := (⟨12 + i.val, by have := i.isLt; omega⟩ : Fin 22)
def outS (i : Fin 2) : DmaSem sig := (⟨20 + i.val, by have := i.isLt; omega⟩ : Fin 22)

/-- A device's cells of the ring: the barrier, the eight send cells, the eight receive cells. -/
abbrev Cell : Type := Option (Bool × Fin 8)
abbrev bar : Cell := none
abbrev snd (i : Fin 8) : Cell := some (false, i)
abbrev rcv (i : Fin 8) : Cell := some (true, i)

def csem : Cell → SemLoc sig
  | none => .reg barS
  | some (false, i) => .dma (sendS i)
  | some (true, i) => .dma (recvS i)

set_option backward.proofsInPublic true in
/-- Which of the ring's cells a semaphore is. -/
def decode : SemLoc sig → Option Cell
  | .reg s => if s = barS then some none else none
  | .dma q => if h : 4 ≤ q.val ∧ q.val < 12 then some (some (false, ⟨q.val - 4, by omega⟩))
      else if h : 12 ≤ q.val ∧ q.val < 20 then some (some (true, ⟨q.val - 12, by omega⟩)) else none

theorem decode_csem (k : Cell) : decode (csem k) = some k := by revert k; decide +kernel
theorem csem_injective : Function.Injective csem := fun a b h => by
  have := congrArg decode h; rw [decode_csem, decode_csem] at this; exact Option.some.inj this

abbrev kc (c : Dev nD) (k : Cell) : GSem nD τ sig := ((c : Thread nD τ), csem k)
abbrev oc (c : Dev nD) (i : Fin 2) : GSem nD τ sig := ((c : Thread nD τ), .dma (outS i))

/-- The credits of a half, of a quarter, of a block of the result. -/
abbrev NH : ℕ := l0.view.dmaCredit
abbrev NQ : ℕ := o0.view.dmaCredit
abbrev NY : ℕ := (outW 0 0).view.dmaCredit
theorem NH_pos : 0 < NH := View.dmaCredit_pos _ (by decide)
theorem NQ_pos : 0 < NQ := View.dmaCredit_pos _ (by decide)
theorem NY_pos : 0 < NY := View.dmaCredit_pos _ (by decide)

/-- What one duty of a cell adds. -/
def amt : Cell → ℕ
  | none => 1
  | some (_, i) => if i.val < 4 then NH else NQ
theorem amt_pos (k : Cell) : 0 < amt k := by
  rcases k with _ | ⟨b, i⟩
  · exact Nat.one_pos
  · unfold amt; dsimp only; split
    · exact NH_pos
    · exact NQ_pos

/-- The device transfer `i` of a device goes to. -/
def dest (c : Dev nD) (i : Fin 8) : Dev nD := if i.val % 4 < 2 then nxt c else prv c

/-! ## Contents -/

def xC (c : Dev nD) : (cc0_stg0_0 : Ref sig .tc).ty.Contents (Elt F) :=
  (win0_0.blk (0 : Fin 1)).view.read (Elt F) ((st₀ m ρ).mem ((c : Thread nD τ).loc main_arg0))
def wC (c : Dev nD) : (cc0_stg1_0 : Ref sig .tc).ty.Contents (Elt F) :=
  (win0_1.blk (0 : Fin 1)).view.read (Elt F) ((st₀ m ρ).mem ((c : Thread nD τ).loc main_arg1))
def aC (c : Dev nD) : (cc0_stg2_0 : Ref sig .tc).ty.Contents (Elt F) :=
  (win0_2.blk (0 : Fin 1)).view.read (Elt F) ((st₀ m ρ).mem ((c : Thread nD τ).loc main_arg2))
def bC (c : Dev nD) : (cc0_stg3_0 : Ref sig .tc).ty.Contents (Elt F) :=
  (win0_3.blk (0 : Fin 1)).view.read (Elt F) ((st₀ m ρ).mem ((c : Thread nD τ).loc main_arg3))

theorem half_inb (h : Fin 2) : ∀ a, (![512 * h.val, 0] : Fin 2 → ℕ) a + S512x4096.size a ≤ S1024x4096.size a := by revert h; decide +kernel
theorem quart_inb (k : Fin 4) : ∀ a, (![256 * k.val, 0] : Fin 2 → ℕ) a + S256x4096.size a ≤ S1024x4096.size a := by revert k; decide +kernel
theorem sub_inb (j : Fin 2) : ∀ a, (![256 * j.val, 0] : Fin 2 → ℕ) a + S256x4096.size a ≤ S512x4096.size a := by revert j; decide +kernel
abbrev halfR (h : Fin 2) : Rect S1024x4096 := Rect.unit (s := S1024x4096) ![512 * h.val, 0] S512x4096.size (half_inb h)
abbrev quartR (k : Fin 4) : Rect S1024x4096 := Rect.unit (s := S1024x4096) ![256 * k.val, 0] S256x4096.size (quart_inb k)
abbrev subR (j : Fin 2) : Rect S512x4096 := Rect.unit (s := S512x4096) ![256 * j.val, 0] S256x4096.size (sub_inb j)

/-- Half `h` and quarter `k` of device `d`'s rows. -/
def xh (d : Dev nD) (h : Fin 2) : S512x4096.Idx → Elt F .i8 := fun i => xC m ρ d ((halfR h).emb i)
def xq (d : Dev nD) (k : Fin 4) : S256x4096.Idx → Elt F .i8 := fun i => xC m ρ d ((quartR k).emb i)

/-- One block of the product: `max((x · w) * s, 0)`. -/
def prod (s : F .f32) (x : Vec F S256x4096 .i8) (w : Vec F S4096x2048 .i8) : FVec F S256x2048 .f32 :=
  maximumf (mulf (sitofp .f32 (matmulI8 IntMxuNumerics.v7x dot_S256x4096_S4096x2048_S256x2048_1_0_0_1_n_n x w (constantI S256x2048 32 0#32)))
    (broadcast S256x2048 s)) (broadcast S256x2048 (Scalar.ofBits .f32 0x00000000#32))

set_option backward.proofsInPublic true in
def i1 : S1.Idx := fun _ => ⟨0, by decide +revert⟩

/-- The scale: the product of the two scalars. -/
def scl (c : Dev nD) : F .f32 := k0_pay1 (F := F) (aC m ρ c i1) (bC m ρ c i1)

/-- What device `c` computes from quarter `k` of device `d`'s rows. -/
def tile (c d : Dev nD) (k : Fin 4) : S256x2048.Idx → Elt F .f32 := prod (scl m ρ c) (xq m ρ d k) (wC m ρ c)

/-! ## Assertions -/

/-- A memref at some contents. -/
def any (c : Thread nD τ) {sp : Space} {s : Shape} {e : EltTy} (M : Memref sig c.2.kind sp s e) : sProp 𝕄 :=
  iprop(∃ f, M.view.loc c ↦[M.view.set]{fullShare} f)

instance any_storable (c : Thread nD τ) {sp : Space} {s : Shape} {e : EltTy} (M : Memref sig c.2.kind sp s e) :
    BI.Storable (upEmb : UEmb _ 𝕄) (any (F := F) c M) := by unfold any; infer_instance

/-- The shares of the `x` block lent to the transfers to the right and to the left, the third kept for the loads. -/
abbrev qK : PosShare TreeShare := fullShare.left
abbrev qL : PosShare TreeShare := fullShare.right
abbrev qA : PosShare TreeShare := fullShare.right.left
abbrev qB : PosShare TreeShare := fullShare.right.right

/-- What a duty of a cell of device `c` hands over. -/
def pay (c : Dev nD) : Cell → Bool → sProp 𝕄
  | none, false => iprop(any (nxt c : Thread nD τ) l0 ∗ any (nxt c : Thread nD τ) l1 ∗ any (nxt c : Thread nD τ) o0 ∗ any (nxt c : Thread nD τ) o1)
  | none, true => iprop(any (prv c : Thread nD τ) r0 ∗ any (prv c : Thread nD τ) r1 ∗ any (prv c : Thread nD τ) o2 ∗ any (prv c : Thread nD τ) o3)
  | some (false, i), _ => match i with
    | 0 => owns (c : Thread nD τ) x0 qA (xh m ρ c 0)
    | 1 => owns (c : Thread nD τ) x1 qA (xh m ρ c 1)
    | 2 => owns (c : Thread nD τ) x0 qB (xh m ρ c 0)
    | 3 => owns (c : Thread nD τ) x1 qB (xh m ρ c 1)
    | 4 => owns (c : Thread nD τ) l00 qL (xq m ρ (prv c) 0)
    | 5 => owns (c : Thread nD τ) l01 qL (xq m ρ (prv c) 1)
    | 6 => owns (c : Thread nD τ) r10 qL (xq m ρ (nxt c) 2)
    | 7 => owns (c : Thread nD τ) r11 qL (xq m ρ (nxt c) 3)
  | some (true, i), _ => match i with
    | 0 => owns (c : Thread nD τ) l0 fullShare (xh m ρ (prv c) 0)
    | 1 => owns (c : Thread nD τ) l1 fullShare (xh m ρ (prv c) 1)
    | 2 => owns (c : Thread nD τ) r0 fullShare (xh m ρ (nxt c) 0)
    | 3 => owns (c : Thread nD τ) r1 fullShare (xh m ρ (nxt c) 1)
    | 4 => owns (c : Thread nD τ) o0 fullShare (xq m ρ (opp c) 0)
    | 5 => owns (c : Thread nD τ) o1 fullShare (xq m ρ (opp c) 1)
    | 6 => owns (c : Thread nD τ) o2 fullShare (xq m ρ (opp c) 2)
    | 7 => owns (c : Thread nD τ) o3 fullShare (xq m ρ (opp c) 3)

instance pay_storable (c : Dev nD) (k : Cell) (d : Bool) : BI.Storable (upEmb : UEmb _ 𝕄) (pay m ρ c k d) := by
  rcases k with _ | ⟨b, i⟩
  · cases d <;> (unfold pay; infer_instance)
  · cases b <;> fin_cases i <;> (unfold pay; infer_instance)

/-- One round: the barrier has two duties, every other cell of the ring one. -/
def rd : Rounds.Schedule (GSem nD τ sig) Bool 𝕄 where
  duties g r := if r = 0 ∧ g.1.2 = .tc then (match decode g.2 with | none => ∅ | some none => Finset.univ | some (some _) => {false}) else ∅
  unitless _ := False
  amount g _ _ := match decode g.2 with | none => 1 | some k => amt k
  payload g _ d := match decode g.2 with | none => iprop(emp) | some k => pay m ρ g.1.1 k d
  amount_pos g _ _ _ := by
    cases decode g.2 with
    | none => exact Nat.one_pos
    | some k => exact amt_pos k

instance rd_payload_storable (g : GSem nD τ sig) (r : ℕ) (d : Bool) :
    BI.Storable (upEmb : UEmb _ 𝕄) ((rd (F := F) m ρ).payload g r d) := by
  show BI.Storable upEmb (match decode g.2 with | none => iprop(emp) | some k => pay m ρ g.1.1 k d)
  split <;> infer_instance

section Sched
variable (c : Dev nD)
omit [FloatOps F] in
theorem duties_later (g : GSem nD τ sig) : ∀ r, 1 ≤ r → (rd (F := F) m ρ).duties g r = ∅ :=
  fun r hr => if_neg fun h => by omega
end Sched

end Cert.Gather
-- ==== Proof.Sched.lean ====
/- The schedule read off cell by cell, what each device owes, and the levels that order the waits. -/
module

public import proofs.«01_k».proof.Proof.Base

@[expose] public section

noncomputable section

namespace Cert.Gather

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The schedule at a cell -/

section Tables
omit [FloatOps F]
variable (c : Dev nD)

theorem duties_bar : (rd (F := F) m ρ).duties (kc c bar) 0 = Finset.univ := by
  dsimp only [rd]; rw [if_pos ⟨rfl, rfl⟩, decode_csem]
theorem duties_cell (b : Bool) (i : Fin 8) : (rd (F := F) m ρ).duties (kc c (some (b, i))) 0 = {false} := by
  dsimp only [rd]; rw [if_pos ⟨rfl, rfl⟩, decode_csem]
theorem mem_bar (d : Bool) : d ∈ (rd (F := F) m ρ).duties (kc c bar) 0 := by rw [duties_bar]; exact Finset.mem_univ _
theorem mem_cell (b : Bool) (i : Fin 8) : false ∈ (rd (F := F) m ρ).duties (kc c (some (b, i))) 0 := by
  rw [duties_cell]; exact Finset.mem_singleton_self _
theorem amount_at (k : Cell) (r : ℕ) (d : Bool) : (rd (F := F) m ρ).amount (kc c k) r d = amt k := by
  dsimp only [rd]; rw [decode_csem]
theorem payload_at (k : Cell) (r : ℕ) (d : Bool) : (rd (F := F) m ρ).payload (kc c k) r d = pay m ρ c k d := by
  dsimp only [rd]; rw [decode_csem]
theorem expect_bar : (rd (F := F) m ρ).expect (kc c bar) 0 = 2 := by
  unfold Schedule.expect Schedule.amountOf
  rw [duties_bar, Finset.sum_congr rfl fun d _ => amount_at m ρ c bar 0 d]; rfl
theorem expect_cell (b : Bool) (i : Fin 8) : (rd (F := F) m ρ).expect (kc c (some (b, i))) 0 = amt (some (b, i)) := by
  unfold Schedule.expect Schedule.amountOf; rw [duties_cell, Finset.sum_singleton, amount_at]
theorem rest_bar : bigSep ((rd (F := F) m ρ).duties (kc c bar) 0 \ ∅) (fun d => (rd (F := F) m ρ).payload (kc c bar) 0 d)
    = iprop(pay m ρ c bar false ∗ pay m ρ c bar true) := by
  rw [Finset.sdiff_empty, duties_bar, bigSep_univ_eq_bigSepL [false, true] (by decide) (by decide), bigSepL_cons_cons, bigSepL_singleton,
    payload_at, payload_at]
  rfl
theorem rest_cell (b : Bool) (i : Fin 8) : bigSep ((rd (F := F) m ρ).duties (kc c (some (b, i))) 0 \ ∅) (fun d => (rd (F := F) m ρ).payload (kc c (some (b, i))) 0 d)
    = pay m ρ c (some (b, i)) false := by
  rw [Finset.sdiff_empty, duties_cell, bigSep_singleton, payload_at]

end Tables

/-! ## What a device owes -/

/-- What is owed to the cells of a list, the head last, so that a step paying the head peels one summand. -/
def oweL : List (Dev nD × Cell) → CellTallies nD τ sig Unit
  | [] => 0
  | p :: l => oweL l + tallyAt (kc p.1 p.2) () (amt p.2)

/-- The transfers of device `c` still to be paid: those in `l`. -/
def rcvs (c : Dev nD) (l : List (Fin 8)) : List (Dev nD × Cell) := l.map fun i => (dest c i, rcv i)

def olist (c : Dev nD) : List (Dev nD × Cell) := (prv c, bar) :: (nxt c, bar) :: rcvs c [0, 1, 2, 3, 4, 5, 6, 7]

def O₀ (c : Dev nD) : CellTallies nD τ sig Unit := oweL (olist c)

theorem kc_inj {c d : Dev nD} {j k : Cell} (h : kc c j = kc d k) : c = d ∧ j = k := by
  have h1 := congrArg (fun g : GSem nD τ sig => g.1.1) h
  have h2 := congrArg (fun g : GSem nD τ sig => g.2) h
  exact ⟨h1, csem_injective h2⟩

theorem oweL_pos : ∀ {l : List (Dev nD × Cell)} {g : GSem nD τ sig} {u : Unit}, 0 < oweL l g u → ∃ p ∈ l, g = kc p.1 p.2
  | [], g, u, h => absurd h (Nat.lt_irrefl 0)
  | p :: l, g, u, h => by
    have h' : 0 < oweL l g u + tallyAt (kc p.1 p.2) () (amt p.2) g u := h
    rw [tallyAt_apply] at h'
    by_cases hg : g = kc p.1 p.2 ∧ u = ()
    · exact ⟨p, List.mem_cons_self .., hg.1⟩
    · rw [if_neg hg] at h'
      obtain ⟨p', hp, e⟩ := oweL_pos (l := l) h'
      exact ⟨p', List.mem_cons_of_mem _ hp, e⟩

theorem oweL_kc (c : Dev nD) (k : Cell) : ∀ l : List (Dev nD × Cell), oweL l (kc c k) () = l.count (c, k) * amt k
  | [] => (Nat.zero_mul _).symm
  | p :: l => by
    have h : oweL (p :: l) (kc c k) () = oweL l (kc c k) () + tallyAt (kc p.1 p.2) () (amt p.2) (kc c k) () := rfl
    rw [h, tallyAt_apply, oweL_kc c k l, List.count_cons]
    by_cases hp : p = (c, k)
    · subst hp; rw [if_pos ⟨rfl, rfl⟩]; simp [Nat.add_mul]
    · rw [if_neg (fun hh => hp (by obtain ⟨e1, e2⟩ := kc_inj hh.1; exact Prod.ext e1.symm e2.symm)), if_neg (by simpa using hp)]
      rfl

/-! ## Levels -/

def L (g : GSem nD τ sig) : Finset Unit := if g.1.2 = .tc then {()} else ∅
theorem L_of_ne (g : GSem nD τ sig) (h : g.1.2 ≠ .tc) : L g = ∅ := if_neg h
theorem L_tc (c : Dev nD) (sm : SemLoc sig) : L ((c : Thread nD τ), sm) = {()} := if_pos rfl

/-- The barrier below the halves, the halves below the quarters passed on; everything else at the bottom. -/
def lvC : Cell → ℕ
  | none => 1
  | some (false, _) => 0
  | some (true, i) => if i.val < 4 then 2 else 3
def lvS (sm : SemLoc sig) : ℕ := match decode sm with | none => 0 | some k => lvC k
def lv (g : GSem nD τ sig) (_ : Unit) : ℕ := lvS g.2
theorem lvS_csem (k : Cell) : lvS (csem k) = lvC k := by unfold lvS; rw [decode_csem]

omit [FloatOps F] in
theorem mayWait_l (c : Dev nD) (sm : SemLoc sig) (l : List (Dev nD × Cell)) (h : ∀ p ∈ l, lvS sm < lvC p.2) :
    (levAts L lv : sProp 𝕄) ⊢ MayWait (c : Thread nD τ) sm () (oweL l) :=
  MayOwe.of_cut (L := L) (lev := lv) (lvS sm) (fun p hp => by rw [Finset.mem_singleton.mp hp, L_tc]; exact Finset.mem_singleton_self _)
    (fun g u hg => by obtain ⟨p, _, rfl⟩ := oweL_pos hg; exact Finset.mem_singleton_self _)
    (fun p hp => by rw [Finset.mem_singleton.mp hp]; exact Nat.le_refl _)
    (fun g u hg => by
      obtain ⟨p, hp, rfl⟩ := oweL_pos hg
      have := h p hp
      rw [← lvS_csem] at this; exact this)

theorem low (sm : SemLoc sig) (hs : decode sm = none) (c : Dev nD) : ∀ p ∈ olist c, lvS sm < lvC p.2 := by
  have h0 : lvS sm = 0 := by unfold lvS; rw [hs]
  rw [h0]
  have key : ∀ c : Dev nD, ∀ p ∈ olist c, 0 < lvC p.2 := by decide +kernel
  exact key c

omit [FloatOps F] in
theorem mayWait_stage (c : Dev nD) (q : DmaSem sig) (hq : decode (SemLoc.dma q) = none) (O : CellTallies nD τ sig Unit) (hO : O = O₀ c ∨ O = 0) :
    (levAts L lv : sProp 𝕄) ⊢ MayWait (c : Thread nD τ) (.dma q) () O := by
  rcases hO with rfl | rfl
  · exact mayWait_l c _ _ (low _ hq c)
  · rw [MayWait_zero]; iintro -; iempintro

/-- What a device still owes, whatever it has waited for. -/
def ow (c : Dev nD) (l : List (Dev nD × Cell)) : sProp 𝕄 := iprop(∃ W, owes (c : Thread nD τ) (oweL l) W)

/-- The persistent part of the ghost state: every cell's invariant and first round, under the names `K`, and the levels. -/
def records (K : Dev nD × Cell → ℕ) : sProp 𝕄 :=
  iprop(bigSep (Finset.univ : Finset (Dev nD × Cell)) (fun ck => cellInv ER (rd m ρ) (K ck) (kc ck.1 ck.2))
    ∗ bigSep (Finset.univ : Finset (Dev nD × Cell)) (fun ck => reached ER (kc ck.1 ck.2) 0))

def env (K : Dev nD × Cell → ℕ) : sProp 𝕄 := iprop(records m ρ K ∗ levAts L lv)

instance records_persistent (K : Dev nD × Cell → ℕ) : BI.Persistent (records (F := F) m ρ K) := by unfold records; infer_instance
instance env_persistent (K : Dev nD × Cell → ℕ) : BI.Persistent (env (F := F) m ρ K) := by unfold env; infer_instance

section Env
omit [FloatOps F]
variable (K : Dev nD × Cell → ℕ) (c : Dev nD)
theorem inv_of_all (ck : Dev nD × Cell) : bigSep (Finset.univ : Finset (Dev nD × Cell)) (fun ck => cellInv ER (rd (F := F) m ρ) (K ck) (kc ck.1 ck.2))
    ⊢ cellInv ER (rd m ρ) (K ck) (kc ck.1 ck.2) := bigSep_elim (Finset.mem_univ ck)
theorem reached_of_all (ck : Dev nD × Cell) : bigSep (Finset.univ : Finset (Dev nD × Cell)) (fun ck => (reached ER (kc ck.1 ck.2) 0 : sProp 𝕄))
    ⊢ reached ER (kc ck.1 ck.2) 0 := bigSep_elim (Finset.mem_univ ck)
theorem env_inv (k : Cell) : env (F := F) m ρ K ⊢ cellInv ER (rd m ρ) (K (c, k)) (kc c k) := by
  unfold env records
  iintro ⟨⟨#HI, #HR⟩, #HL⟩
  iapply (inv_of_all m ρ K (c, k)); iexact HI
theorem env_reached (k : Cell) : env (F := F) m ρ K ⊢ reached ER (kc c k) 0 := by
  unfold env records
  iintro ⟨⟨#HI, #HR⟩, #HL⟩
  iapply (reached_of_all (F := F) (c, k)); iexact HR
theorem env_lev : env (F := F) m ρ K ⊢ levAts L lv := by
  unfold env
  iintro ⟨#HI, #HL⟩; iexact HL
end Env

/-- The position and the credits of a cell whose one round is still to be waited for. -/
def waiting (c : Dev nD) (k : Cell) : sProp 𝕄 := iprop(atPos ER (kc c k) 0 ∅ 0 ∗ cred (tallyAt (kc c k) () (amt k)))

/-- What transfer `i` of device `c` is paid with: the duty of its own send cell, that of the destination's receive cell, and
    the position of the send cell. -/
def sendRes (c : Dev nD) (i : Fin 8) : sProp 𝕄 :=
  iprop(dutyTok ER (kc c (snd i)) 0 false ∗ dutyTok ER (kc (dest c i) (rcv i)) 0 false ∗ atPos ER (kc c (snd i)) 0 ∅ 0)

end Cert.Gather
-- ==== Proof.Step.lean ====
/- One lemma per kind of operation of the body: a transfer, a wait for one, the barrier, the loads and stores, and the copies
of finished blocks to the result. -/
module

public import proofs.«01_k».proof.Proof.Sched

@[expose] public section

noncomputable section

namespace Cert.Gather

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

abbrev 𝒱₀ : Variants := Variants.none

/-- A run of the body of device `c` ending in `Q`. -/
abbrev run (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

section Views
omit [FloatOps F]
variable {κ : Kind} {sp : Space} {s s' : Shape} {e : EltTy}

theorem read_squeeze_write (M : Memref sig κ sp s e) (r : Rect s) (hr : ∀ a, r.stride a = 1) (hq : r.shape.Squeezes s')
    (f : M.view.ty.Contents (Elt F)) (w : r.shape.Idx → Elt F e) :
    ((M.slice r hr).squeeze s' hq).view.read (Elt F) ((M.access r).write (Elt F) f w Finset.univ) = fun j => w (Shape.reshapeEquiv hq.numel_eq j) := by
  have h : (M.access r).read (Elt F) ((M.access r).write (Elt F) f w Finset.univ) = w := View.read_write_univ (v := M.access r) f w
  funext j
  exact congrFun h (Shape.reshapeEquiv hq.numel_eq j)

theorem set_squeeze (M : Memref sig κ sp s e) (r : Rect s) (hr : ∀ a, r.stride a = 1) (hq : r.shape.Squeezes s') :
    (M.access r).set ⊆ ((M.slice r hr).squeeze s' hq).view.set := by
  show (M.access r).set ⊆ ((M.access r).reshape s' hq.numel_eq).set
  rw [View.set_reshape]

/-- An owned memref is at some contents. -/
theorem any_of_owns (c : Thread nD τ) (M : Memref sig c.2.kind sp s e) (X : s.Idx → Elt F e) : (owns c M fullShare X : sProp 𝕄) ⊢ any c M := by
  unfold owns any
  iintro ⟨%f, %hf, H⟩
  iexists f; iexact H
end Views

section Steps
variable (K : Dev nD × Cell → ℕ) (c : Dev nD) {α : Type}

/-- A load through a rectangle of an owned memref continues at the contents under the rectangle. -/
theorem load_step {Q : α → sProp (MT nD τ sig Unit (Elt F) ℕ UU ℕ)} {cs : CoreSpace} {s : Shape} {e : EltTy} (M : Memref sig .tc cs s e) (r : Rect s) {hl : M.view.LoadsAt r.toLoadRect}
    (q : PosShare TreeShare) (X : s.Idx → Elt F e) {k : (r.shape.Idx → Elt F e) → Prog (TpuEff nD τ sig (Elt F) Λ₀ .tc) α} :
    (owns (c : Thread nD τ) M q X : sProp 𝕄)
      ⊢ iprop((owns (c : Thread nD τ) M q X -∗ run c (k fun i => X (r.emb i)) Q) -∗ run c (.op (.load M r.toLoadRect hl) k) Q) := by
  unfold owns
  iintro ⟨%f, %hf, H⟩ Hk
  iapply (wp_load_rect 𝒱₀ (c : Thread nD τ) none Set.univ (m := M) (r := r) (S := M.view.set) (View.set_slice_subset _ _)) $$ H
  iintro H
  subst hf
  iapply Hk
  iexists f; isplitr; · ipureintro; rfl
  iexact H

/-- A load of a slot nothing is known of. -/
theorem load_any_step {Q : α → sProp (MT nD τ sig Unit (Elt F) ℕ UU ℕ)} {cs : CoreSpace} {s s' : Shape} {e : EltTy} (M : Memref sig .tc cs s e) (r : Rect s) (hr : ∀ a, r.stride a = 1)
    (hq : r.shape.Squeezes s') {hl : M.view.LoadsAt r.toLoadRect}
    {k : (r.shape.Idx → Elt F e) → Prog (TpuEff nD τ sig (Elt F) Λ₀ .tc) α} :
    (any (c : Thread nD τ) ((M.slice r hr).squeeze s' hq) : sProp 𝕄)
      ⊢ iprop((∀ v, any (c : Thread nD τ) ((M.slice r hr).squeeze s' hq) -∗ run c (k v) Q) -∗ run c (.op (.load M r.toLoadRect hl) k) Q) := by
  unfold any
  iintro ⟨%f, H⟩ Hk
  iapply (wp_load_rect 𝒱₀ (c : Thread nD τ) none Set.univ (m := M) (r := r) (S := ((M.slice r hr).squeeze s' hq).view.set)
    (set_squeeze M r hr hq)) $$ H
  iintro H
  iapply Hk
  iexists f
  iexact H

/-- A store of a whole slot: the slot then holds the payload, its axis of size one dropped. -/
theorem store_step {Q : α → sProp (MT nD τ sig Unit (Elt F) ℕ UU ℕ)} {cs : CoreSpace} {s s' : Shape} {e : EltTy} (M : Memref sig .tc cs s e) (r : Rect s) (hr : ∀ a, r.stride a = 1)
    (hq : r.shape.Squeezes s') {hx : (M.access r).Stores Finset.univ} {hm}
    (w : r.shape.Idx → Elt F e) (T : s'.Idx → Elt F e) (hT : (fun j => w (Shape.reshapeEquiv hq.numel_eq j)) = T)
    {k : PUnit → Prog (TpuEff nD τ sig (Elt F) Λ₀ .tc) α} :
    (any (c : Thread nD τ) ((M.slice r hr).squeeze s' hq) : sProp 𝕄)
      ⊢ iprop((owns (c : Thread nD τ) ((M.slice r hr).squeeze s' hq) fullShare T -∗ run c (k ⟨⟩) Q)
        -∗ run c (.op (.store M r w Finset.univ hx hm) k) Q) := by
  unfold any owns
  iintro ⟨%f, H⟩ Hk
  iapply (wp_store 𝒱₀ (c : Thread nD τ) none Set.univ (m := M) (r := r) (Mk := Finset.univ) (S := ((M.slice r hr).squeeze s' hq).view.set)
    (set_squeeze M r hr hq)) $$ H
  iintro H
  iapply Hk
  iexists _
  isplitr
  · ipureintro; exact (read_squeeze_write M r hr hq f w).trans hT
  iexact H

/-- A word of a scalar's buffer read. -/
theorem word_step {Q : α → sProp (MT nD τ sig Unit (Elt F) ℕ UU ℕ)} (M : Memref sig .tc .smem S1 .f32) (q : PosShare TreeShare) (X : S1.Idx → Elt F .f32) {h1 : S1.numel = 1} {hp}
    {k : Elt F .f32 → Prog (TpuEff nD τ sig (Elt F) Λ₀ .tc) α} :
    (owns (c : Thread nD τ) M q X : sProp 𝕄)
      ⊢ iprop((owns (c : Thread nD τ) M q X -∗ run c (k (X i1)) Q)
        -∗ run c ((smemLoad M (Rect.unit (s := S1) ![0] S1.size inb_S1_S1_0) h1 hp) >>= k) Q) := by
  unfold owns
  iintro ⟨%f, %hf, H⟩ Hk
  unfold smemLoad smemLoadElt
  simp only [Prog.bind_op, Prog.bind_ret]
  iapply (wp_load_rect 𝒱₀ (c : Thread nD τ) none Set.univ (m := M) (r := Rect.unit (s := S1) ![0] S1.size inb_S1_S1_0) (S := M.view.set)
    (View.set_slice_subset _ _)) $$ H
  iintro H
  subst hf
  rw [show (i1 : S1.Idx) = (Rect.unit (s := S1) ![0] S1.size inb_S1_S1_0).emb (Shape.Idx.first (h1.symm ▸ Nat.one_pos)) from
    funext fun a => Fin.ext (by have := ((Rect.unit (s := S1) ![0] S1.size inb_S1_S1_0).emb (Shape.Idx.first (h1.symm ▸ Nat.one_pos)) a).isLt; fin_cases a; simp [S1] at this ⊢; simp [i1]; omega)]
  iapply Hk
  iexists f; isplitr; · ipureintro; rfl
  iexact H

/-- A transfer to a neighbour: the source is lent to the send cell, the destination and its contents go to the
    destination's receive cell. -/
theorem send_step {Q : α → sProp (MT nD τ sig Unit (Elt F) ℕ UU ℕ)} {sp sp' : Space} {s : Shape} {e : EltTy} (i : Fin 8) (src : Memref sig .tc sp s e) (dst : Memref sig .tc sp' s e)
    (q : PosShare TreeShare) (X : s.Idx → Elt F e) (c' : Dev nD) (hc : c' = dest c i) (sS sR : DmaSem sig) (hS : sS = sendS i) (hR : sR = recvS i)
    (hN : dst.view.amount (.dma (recvS i)) = amt (rcv i))
    (hps : pay m ρ c (snd i) false = owns (c : Thread nD τ) src q X)
    (hpr : pay m ρ (dest c i) (rcv i) false = owns (dest c i : Thread nD τ) dst fullShare X) (l : List (Dev nD × Cell))
    {hsc} {hsrc : src.view.WordExact} {hdst : dst.view.WordExact} {hsem}
    {k : PUnit → Prog (TpuEff nD τ sig (Elt F) Λ₀ .tc) α} :
    iprop(env m ρ K ∗ sendRes c i ∗ owns (c : Thread nD τ) src q X ∗ any (dest c i : Thread nD τ) dst ∗ ow c ((dest c i, rcv i) :: l))
      ⊢ iprop((iprop(waiting c (snd i) ∗ ow c l) -∗ run c (k ⟨⟩) Q)
        -∗ run c (.op (.enqueueDma src (.remote (c' : Thread nD τ) dst (.dma sS) hsc) (.dma sR) hsrc hdst hsem) k) Q) := by
  subst hc hS hR
  iintro ⟨#He, HR, Hs, Hd, Ho⟩ Hk
  unfold sendRes ow
  icases HR with ⟨HtS, HtV, Hat⟩
  icases Ho with ⟨%W, HO⟩
  ihave Hs' := (show (owns (c : Thread nD τ) src q X : sProp 𝕄) ⊢ iprop(∃ f, ⌜src.view.read (Elt F) f = X⌝ ∗ (src.view.loc (c : Thread nD τ) ↦[src.view.set]{q} f)) from .rfl) $$ Hs
  icases Hs' with ⟨%fs, %hfs, Hs⟩
  unfold any
  icases Hd with ⟨%fd, Hd⟩
  ihave #HI1 := (env_inv m ρ K c (snd i)) $$ He
  ihave #HI2 := (env_inv m ρ K (dest c i) (rcv i)) $$ He
  ihave #Hr1 := (env_reached m ρ K c (snd i)) $$ He
  ihave #Hr2 := (env_reached m ρ K (dest c i) (rcv i)) $$ He
  iapply (Rounds.wp_send_pointsTo 𝒱₀ ER (rd m ρ) (c : Thread nD τ) none (κ₁ := K (c, snd i)) (κ₂ := K (dest c i, rcv i)) (r₁ := 0) (r₂ := 0)
      (d₁ := false) (d₂ := false) (fd := fd) (fs := fs) (q := q)
      (by exact mem_cell m ρ c false i) (by exact mem_cell m ρ (dest c i) true i) () () (amt (rcv i)) hN (amount_at m ρ c (snd i) 0 false)
      (amount_at m ρ (dest c i) (rcv i) 0 false) (oweL l) rfl (W := W)
      (by
        show _ ⊢ (rd m ρ).payload (kc c (snd i)) 0 false
        rw [payload_at, hps, ← hfs]; exact owns_intro _ _ _ _)
      (by
        show _ ⊢ (rd m ρ).payload (kc (dest c i) (rcv i)) 0 false
        rw [payload_at, hpr]
        refine (owns_intro _ _ _ _).trans (Entails.of_eq ?_)
        rw [View.read_write_univ, hfs]) (hr := by routes)) $$ [Hs Hd HO HtS HtV]
  · isplitr; · iexact HI1
    isplitr; · iexact HI2
    isplitl [Hs]; · iexact Hs
    isplitl [Hd]; · iexact Hd
    isplitl [HO]; · iexact HO
    isplitl [HtS]; · iexact HtS
    isplitr; · iexact Hr1
    isplitl [HtV]; · iexact HtV
    iexact Hr2
  iintro ⟨Hc, HO⟩
  iapply Hk
  isplitl [Hat Hc]
  · unfold waiting; isplitl [Hat]; · iexact Hat
    iexact Hc
  iexists W; iexact HO

/-- A wait for a transfer: the cell's payload, and its counter back at zero. -/
theorem wait_step {Q : α → sProp (MT nD τ sig Unit (Elt F) ℕ UU ℕ)} {sp sp' : Space} {s s' : Shape} {e e' : EltTy} (b : Bool) (i : Fin 8) (srcw : Memref sig .tc sp s e) (dstw : Memref sig .tc sp' s' e')
    (sm : DmaSem sig) (hsm : SemLoc.dma sm = csem (some (b, i))) (hN : dstw.view.dmaCredit = amt (some (b, i))) (l : List (Dev nD × Cell))
    (hl : ∀ p ∈ l, lvC (some (b, i)) < lvC p.2) {hsrc : srcw.view.WordExact} {hdst : dstw.view.WordExact}
    {k : PUnit → Prog (TpuEff nD τ sig (Elt F) Λ₀ .tc) α} :
    iprop(env m ρ K ∗ waiting c (some (b, i)) ∗ ow c l)
      ⊢ iprop((iprop(pay m ρ c (some (b, i)) false ∗ semVal (kc c (some (b, i))) 0 ∗ ow c l) -∗ run c (k ⟨⟩) Q)
        -∗ run c (.op (.waitDma2 sm srcw dstw hsrc hdst) k) Q) := by
  iintro ⟨#He, HR, Ho⟩ Hk
  unfold waiting ow
  icases HR with ⟨Hat, Hc⟩
  icases Ho with ⟨%W, HO⟩
  ihave #HI := (env_inv m ρ K c (some (b, i))) $$ He
  iapply (Rounds.wp_wait_rest_token 𝒱₀ ER (rd m ρ) (c : Thread nD τ) none (κ := K (c, some (b, i))) (sm := csem (some (b, i)))
      (hsm ▸ hN ▸ wpE_waitDma2_eq 𝒱₀ (c : Thread nD τ) none Set.univ) (Set.mem_univ _) () (O := oweL l) (W := W) (R := 0) (m := 0) (T := ∅)
      (by rw [Nat.zero_add]; exact (expect_cell m ρ c b i).symm)) $$ [Hc HO Hat]
  · isplitr; · iexact HI
    isplitl [Hc]; · iexact Hc
    isplitl [HO]; · iexact HO
    isplitr
    · iapply (mayWait_l (F := F) c (csem (some (b, i))) l (fun p hp => by rw [lvS_csem]; exact hl p hp)); iapply (env_lev m ρ K); iexact He
    iexact Hat
  iintro ⟨HO, Hat, -, Hpay⟩
  ihave Hp := (Entails.of_eq (rest_cell m ρ c b i)) $$ Hpay
  imod (Rounds.cell_close ER (rd m ρ) (Set.mem_univ (K (c, some (b, i)))) (fun h => h) (R := 0 + 1) (duties_later m ρ (kc c (some (b, i))))) $$ [Hat] with Hz
  · isplitr; · iexact HI
    iexact Hat
  iapply Hk
  isplitl [Hp]; · iexact Hp
  isplitl [Hz]; · iexact Hz
  iexists _; iexact HO

/-- A barrier signal to a neighbour, with what it hands over. -/
theorem signal_step {Q : α → sProp (MT nD τ sig Unit (Elt F) ℕ UU ℕ)} (c' d : Dev nD) (hd : c' = d) (b : Bool) (l : List (Dev nD × Cell)) {k : PUnit → Prog (TpuEff nD τ sig (Elt F) Λ₀ .tc) α} :
    iprop(env m ρ K ∗ dutyTok ER (kc d bar) 0 b ∗ pay m ρ d bar b ∗ ow c ((d, bar) :: l))
      ⊢ iprop((ow c l -∗ run c (k ⟨⟩) Q) -∗ run c (.op (.semSignal (c' : Thread nD τ) barS (1#32 : BitVec 32).toInt) k) Q) := by
  subst hd
  iintro ⟨#He, Ht, Hp, Ho⟩ Hk
  unfold ow
  icases Ho with ⟨%W, HO⟩
  ihave #HI := (env_inv m ρ K c' bar) $$ He
  ihave #Hr := (env_reached m ρ K c' bar) $$ He
  iapply (Rounds.wp_signal 𝒱₀ ER (rd m ρ) (c : Thread nD τ) none (dst := (c' : Thread nD τ)) (κ := K (c', bar))
      (d := b) (by exact mem_bar m ρ c' b) ((amount_at m ρ c' bar 0 b).trans (by decide)) () (oweL l) rfl (W := W)) $$ [HO Ht Hp]
  · isplitr; · iexact HI
    isplitl [HO]; · iexact HO
    isplitl [Ht]; · iexact Ht
    isplitl [Hp]; · iapply (Entails.of_eq (show pay m ρ c' bar b = (rd m ρ).payload ((c' : Thread nD τ), .reg barS) 0 b from (payload_at m ρ c' bar 0 b).symm)); iexact Hp
    iexact Hr
  iintro HO
  iapply Hk
  iexists W; iexact HO

/-- The barrier wait: what both neighbours hand over. -/
theorem bar_step {Q : α → sProp (MT nD τ sig Unit (Elt F) ℕ UU ℕ)} (l : List (Dev nD × Cell)) (hl : ∀ p ∈ l, 1 < lvC p.2) {k : PUnit → Prog (TpuEff nD τ sig (Elt F) Λ₀ .tc) α} :
    iprop(env m ρ K ∗ (atPos ER (kc c bar) 0 ∅ 0 ∗ cred (tallyAt (kc c bar) () 2)) ∗ ow c l)
      ⊢ iprop((iprop((pay m ρ c bar false ∗ pay m ρ c bar true) ∗ semVal (kc c bar) 0 ∗ ow c l) -∗ run c (k ⟨⟩) Q)
        -∗ run c (.op (.semWait barS (2#32 : BitVec 32).toInt) k) Q) := by
  iintro ⟨#He, ⟨Hat, Hc⟩, Ho⟩ Hk
  unfold ow
  icases Ho with ⟨%W, HO⟩
  ihave #HI := (env_inv m ρ K c bar) $$ He
  iapply (Rounds.wp_wait_rest_token 𝒱₀ ER (rd m ρ) (c : Thread nD τ) none (κ := K (c, bar))
      (wpE_semWait_eq 𝒱₀ (c : Thread nD τ) none Set.univ) (Set.mem_univ _) () (O := oweL l) (W := W) (R := 0) (m := 0) (T := ∅)
      (by rw [Nat.zero_add]; exact (expect_bar m ρ c).symm)) $$ [Hc HO Hat]
  · isplitr; · iexact HI
    isplitl [Hc]; · iexact Hc
    isplitl [HO]; · iexact HO
    isplitr
    · iapply (mayWait_l (F := F) c (csem bar) l (fun p hp => by rw [lvS_csem]; exact hl p hp)); iapply (env_lev m ρ K); iexact He
    iexact Hat
  iintro ⟨HO, Hat, -, Hpay⟩
  ihave Hp := (Entails.of_eq (show bigSep ((rd (F := F) m ρ).duties ((c : Thread nD τ), .reg barS) 0 \ ∅) (fun d => (rd (F := F) m ρ).payload ((c : Thread nD τ), .reg barS) 0 d)
    = iprop(pay m ρ c bar false ∗ pay m ρ c bar true) from rest_bar m ρ c)) $$ Hpay
  imod (Rounds.cell_close ER (rd m ρ) (Set.mem_univ (K (c, bar))) (fun h => h) (R := 0 + 1) (duties_later m ρ (kc c bar))) $$ [Hat] with Hz
  · isplitr; · iexact HI
    iexact Hat
  iapply Hk
  isplitl [Hp]; · iexact Hp
  isplitl [Hz]; · iexact Hz
  iexists _; iexact HO

/-- A finished block on its way from slot `M` to window `D` of the result. -/
def flight (s : Fin 2) (M : Memref sig .tc .vmem S256x2048 .f32) (D : Memref sig .tc .hbm S256x2048 .f32) (T : S256x2048.Idx → Elt F .f32) : sProp 𝕄 :=
  Transfers.Flight EC (c : Thread nD τ) (.dma (outS s)) () NY iprop(owns (c : Thread nD τ) D fullShare T ∗ any (c : Thread nD τ) M)

theorem copy_step {Q : α → sProp (MT nD τ sig Unit (Elt F) ℕ UU ℕ)} (s : Fin 2) (M : Memref sig .tc .vmem S256x2048 .f32) (D D' : Memref sig .tc .hbm S256x2048 .f32) (hD : D' = D)
    (T : S256x2048.Idx → Elt F .f32) (sm : DmaSem sig) (hsm : sm = outS s) (hN : D.view.dmaCredit = NY) {hsrc : M.view.WordExact} {hdst : D'.view.WordExact} {hsem}
    {k : PUnit → Prog (TpuEff nD τ sig (Elt F) Λ₀ .tc) α} :
    iprop(owns (c : Thread nD τ) M fullShare T ∗ any (c : Thread nD τ) D ∗ semVal (oc c s) 0)
      ⊢ iprop((flight c s M D T -∗ run c (k ⟨⟩) Q)
        -∗ run c (.op (.enqueueDma M (.here D') (.dma sm) hsrc hdst hsem) k) Q) := by
  subst hD hsm
  iintro ⟨HM, HD, Hz⟩ Hk
  ihave HM' := (show (owns (c : Thread nD τ) M fullShare T : sProp 𝕄) ⊢ iprop(∃ f, ⌜M.view.read (Elt F) f = T⌝ ∗ (M.view.loc (c : Thread nD τ) ↦[M.view.set]{fullShare} f)) from .rfl) $$ HM
  icases HM' with ⟨%fs, %hfs, HM⟩
  unfold any
  icases HD with ⟨%fd, HD⟩
  iapply (Transfers.wp_dmaLocal EC 𝒱₀ (c : Thread nD τ) none (dst := D') (via := .same) () NY (by exact hN) NY_pos (Finset.Subset.refl _)) $$ [HM HD Hz]
  · isplitl [HM]; · iexact HM
    isplitl [HD]; · iexact HD
    iexact Hz
  iintro Hf
  iapply Hk
  unfold flight
  iapply (Transfers.Flight_mono EC (c : Thread nD τ) ?_) $$ Hf
  iintro ⟨HD, HM⟩
  isplitl [HD]
  · have h := (owns_intro (Ix := Unit) (Name := ℕ) (U := UU) (Lvl := ℕ) (c : Thread nD τ) D' fullShare (D'.view.write (Elt F) fd (ReadAs.same.apply (M.view.read (Elt F) fs)) Finset.univ))
    rw [View.read_write_univ] at h
    rw [← hfs]
    iapply h; iexact HD
  iapply (show (M.view.loc (c : Thread nD τ) ↦[M.view.set]{fullShare} fs) ⊢ any (c : Thread nD τ) M from by unfold any; iintro H; iexists fs; iexact H); iexact HM

theorem wait_out_step {Q : α → sProp (MT nD τ sig Unit (Elt F) ℕ UU ℕ)} (s : Fin 2) (M M' : Memref sig .tc .vmem S256x2048 .f32) (D D' : Memref sig .tc .hbm S256x2048 .f32)
    (T : S256x2048.Idx → Elt F .f32) (sm : DmaSem sig) (hsm : sm = outS s) (hN : D'.view.dmaCredit = NY) (l : List (Dev nD × Cell)) (hl : ∀ p ∈ l, 0 < lvC p.2)
    {hsrc : M'.view.WordExact} {hdst : D'.view.WordExact} {k : PUnit → Prog (TpuEff nD τ sig (Elt F) Λ₀ .tc) α} :
    iprop(env m ρ K ∗ flight c s M D T ∗ ow c l)
      ⊢ iprop((iprop((owns (c : Thread nD τ) D fullShare T ∗ any (c : Thread nD τ) M) ∗ semVal (oc c s) 0 ∗ ow c l) -∗ run c (k ⟨⟩) Q)
        -∗ run c (.op (.waitDma2 sm M' D' hsrc hdst) k) Q) := by
  subst hsm
  iintro ⟨#He, Hf, Ho⟩ Hk
  unfold ow flight
  icases Ho with ⟨%W, HO⟩
  iapply (Transfers.wp_waitLocalO EC 𝒱₀ (c : Thread nD τ) none () (N := NY) hN (O := oweL l) (W := W)) $$ [Hf HO]
  · isplitl [Hf]; · iexact Hf
    isplitl [HO]; · iexact HO
    iapply (mayWait_l (F := F) c (.dma (outS s)) l (fun p hp => by
      have h0 : lvS (.dma (outS s)) = 0 := by revert s; decide +kernel
      rw [h0]; exact hl p hp))
    iapply (env_lev m ρ K); iexact He
  iintro ⟨HD, Hz, HO⟩
  iapply Hk
  isplitl [HD]; · iexact HD
  isplitl [Hz]; · iexact Hz
  iexists _; iexact HO

end Steps

end Cert.Gather
-- ==== Proof.Geom.lean ====
/- The buffers as the separating conjunction of their slots, the halves of their quarters, the result of its windows. -/
module

public import proofs.«01_k».proof.Proof.Step
public import Idealize.ShloMosaic.Lib.Pipeline.Value
public import Idealize.ShloMosaic.Lib.ViewIndex

@[expose] public section

noncomputable section

namespace Cert.Gather

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

section General
omit [FloatOps F]
variable (c : Thread nD τ) {sp : Space} {s s' : Shape} {e : EltTy}

theorem owns_read_pts (M : Memref sig c.2.kind sp s e) (q : PosShare TreeShare) (f : M.view.ty.Contents (Elt F)) :
    (owns c M q (M.view.read (Elt F) f) : sProp 𝕄) ⊢ (M.view.loc c ↦[M.view.set]{q} f) := by
  unfold owns
  iintro ⟨%g, %hg, H⟩
  iapply (Entails.of_eq (pointsTo_congr (f := g) (g := f) fun i hi => by
    obtain ⟨x, -, rfl⟩ := Finset.mem_map.mp hi
    exact View.eq_of_read_eq (congrFun hg x)))
  iexact H

theorem owns_read (M : Memref sig c.2.kind sp s e) (q : PosShare TreeShare) (f : M.view.ty.Contents (Elt F)) :
    (owns c M q (M.view.read (Elt F) f) : sProp 𝕄) = (M.view.loc c ↦[M.view.set]{q} f) := by
  have h : (owns c M q (M.view.read (Elt F) f) : sProp 𝕄) ⊢ (M.view.loc c ↦[M.view.set]{q} f) := owns_read_pts c M q f
  exact Entails.antisymm h (owns_intro c M q f)

theorem owns_share (M : Memref sig c.2.kind sp s e) (q : PosShare TreeShare) (X : s.Idx → Elt F e) :
    (owns c M q X : sProp 𝕄) ⊢ iprop(owns c M q.left X ∗ owns c M q.right X) := by
  iintro H
  ihave H' := (show (owns c M q X : sProp 𝕄) ⊢ iprop(∃ f, ⌜M.view.read (Elt F) f = X⌝ ∗ (M.view.loc c ↦[M.view.set]{q} f)) from .rfl) $$ H
  icases H' with ⟨%f, %hf, H⟩
  subst hf
  ihave H' := (pointsTo_share (f := f) (PosShare.mem_left_op_right q)).1 $$ H
  icases H' with ⟨H1, H2⟩
  rw [owns_read, owns_read]
  isplitl [H1]; · iexact H1
  iexact H2

theorem owns_unshare (M : Memref sig c.2.kind sp s e) (q : PosShare TreeShare) (X : s.Idx → Elt F e) :
    iprop(owns c M q.left X ∗ owns c M q.right X) ⊢ (owns c M q X : sProp 𝕄) := by
  iintro ⟨H, H2⟩
  ihave H' := (show (owns c M q.left X : sProp 𝕄) ⊢ iprop(∃ f, ⌜M.view.read (Elt F) f = X⌝ ∗ (M.view.loc c ↦[M.view.set]{q.left} f)) from .rfl) $$ H
  icases H' with ⟨%f, %hf, H1⟩
  subst hf
  ihave H2 := (Entails.of_eq (owns_read c M q.right f)) $$ H2
  iapply (owns_intro c M q f)
  iapply (pointsTo_share (f := f) (PosShare.mem_left_op_right q)).2
  isplitl [H1]; · iexact H1
  iexact H2

theorem owns_squeeze (M : Memref sig c.2.kind sp s e) (hq : s.Squeezes s') (q : PosShare TreeShare) (X : s.Idx → Elt F e) :
    (owns c (M.squeeze s' hq) q (fun j => X (Shape.reshapeEquiv hq.numel_eq j)) : sProp 𝕄) = owns c M q X := by
  have h1 : ∀ f : M.view.ty.Contents (Elt F), (owns c (M.squeeze s' hq) q ((M.squeeze s' hq).view.read (Elt F) f) : sProp 𝕄) = owns c M q (M.view.read (Elt F) f) := fun f => by
    rw [owns_read, owns_read]
    show (M.view.loc c ↦[(M.view.reshape s' hq.numel_eq).set]{q} f : sProp 𝕄) = _
    rw [View.set_reshape]
  have ha : (owns c (M.squeeze s' hq) q (fun j => X (Shape.reshapeEquiv hq.numel_eq j)) : sProp 𝕄) ⊢ owns c M q X := by
    iintro H
    ihave H' := (show (owns c (M.squeeze s' hq) q (fun j => X (Shape.reshapeEquiv hq.numel_eq j)) : sProp 𝕄)
      ⊢ iprop(∃ f, ⌜(M.squeeze s' hq).view.read (Elt F) f = (fun j => X (Shape.reshapeEquiv hq.numel_eq j))⌝ ∗ ((M.squeeze s' hq).view.loc c ↦[(M.squeeze s' hq).view.set]{q} f)) from .rfl) $$ H
    icases H' with ⟨%f, %hf, H⟩
    have hX : M.view.read (Elt F) f = X := funext fun i => by
      have := congrFun hf ((Shape.reshapeEquiv hq.numel_eq).symm i)
      rw [Equiv.apply_symm_apply] at this
      rw [← this]
      show _ = M.view.read (Elt F) f (Shape.reshapeEquiv hq.numel_eq ((Shape.reshapeEquiv hq.numel_eq).symm i))
      rw [Equiv.apply_symm_apply]
    rw [← hX]
    iapply (Entails.of_eq (h1 f))
    rw [owns_read]
    iexact H
  have hb : (owns c M q X : sProp 𝕄) ⊢ owns c (M.squeeze s' hq) q (fun j => X (Shape.reshapeEquiv hq.numel_eq j)) := by
    iintro H
    ihave H' := (show (owns c M q X : sProp 𝕄) ⊢ iprop(∃ f, ⌜M.view.read (Elt F) f = X⌝ ∗ (M.view.loc c ↦[M.view.set]{q} f)) from .rfl) $$ H
    icases H' with ⟨%f, %hf, H⟩
    subst hf
    iapply (Entails.of_eq (h1 f).symm)
    rw [owns_read]
    iexact H
  exact Entails.antisymm ha hb

theorem any_squeeze (M : Memref sig c.2.kind sp s e) (hq : s.Squeezes s') : (any c (M.squeeze s' hq) : sProp 𝕄) = any c M := by
  unfold any
  show iprop(∃ f, M.view.loc c ↦[(M.view.reshape s' hq.numel_eq).set]{fullShare} f) = _
  rw [View.set_reshape]

theorem any_whole (b : Ref sig c.2.kind) : (any c (Memref.whole b) : sProp 𝕄) = iprop(∃ f, (c.loc b) ↦{fullShare} f) := by
  unfold any
  simp only [Memref.view_whole, View.set_whole]

section Rects
variable {T : Type} [Fintype T] [DecidableEq T] (M : Memref sig c.2.kind sp s e) (r : T → Rect s) (hr : ∀ t a, (r t).stride a = 1)
  (hd : ∀ t t', t ≠ t' → Disjoint (r t).set (r t').set)
  (hcov : (Finset.univ : Finset T).biUnion (fun t => (r t).set) = Finset.univ)
include hd hcov

theorem any_rects : (any c M : sProp 𝕄) ⊢ bigSep Finset.univ fun t => any c (M.slice (r t) (hr t)) := by
  have h (f : M.view.ty.Contents (Elt F)) : (M.view.loc c ↦[M.view.set]{fullShare} f : sProp 𝕄) ⊢ bigSep Finset.univ fun t => any c (M.slice (r t) (hr t)) := by
    rw [pointsTo_rects c M fullShare r hr hd hcov f]
    exact bigSep_mono fun t _ => any_of_owns c (M.slice (r t) (hr t)) (fun j => M.view.read (Elt F) f ((r t).emb j))
  iintro H
  ihave H' := (show any c M ⊢ iprop(∃ f, (M.view.loc c ↦[M.view.set]{fullShare} f : sProp 𝕄)) from .rfl) $$ H
  icases H' with ⟨%f, H⟩
  iapply (h f); iexact H

theorem any_of_rects (f₀ : M.view.ty.Contents (Elt F)) : (bigSep Finset.univ fun t => any c (M.slice (r t) (hr t)) : sProp 𝕄) ⊢ any c M := by
  have hset : M.view.set = (Finset.univ : Finset T).biUnion fun t => (M.view.slice (r t)).set := by
    ext i; constructor
    · intro hi
      obtain ⟨x, -, rfl⟩ := Finset.mem_map.mp hi
      obtain ⟨t, -, hx⟩ := Finset.mem_biUnion.mp (hcov.symm ▸ Finset.mem_univ x)
      exact Finset.mem_biUnion.mpr ⟨t, Finset.mem_univ _, by rw [View.set_slice]; exact Finset.mem_map_of_mem _ hx⟩
    · intro hi
      obtain ⟨t, -, hi⟩ := Finset.mem_biUnion.mp hi
      exact View.set_slice_subset _ _ hi
  unfold any
  have : Nonempty (Buf (Elt F) (M.view.loc c)) := ⟨f₀⟩
  refine (BI.bigSep_exists_pi (Y := fun _ : T => Buf (Elt F) (M.view.loc c)) Finset.univ (fun t f => (M.view.loc c ↦[(M.view.slice (r t)).set]{fullShare} f : sProp 𝕄))).trans ?_
  iintro ⟨%fs, H⟩
  ihave H' := (pointsTo_biUnion_join Finset.univ (fun t => (M.view.slice (r t)).set) fs f₀ fun t _ t' _ htt => View.disjoint_slice (hd t t' htt)) $$ H
  icases H' with ⟨%g, -, H⟩
  iexists g
  rw [hset]
  iexact H
end Rects
end General

/-! ## The rectangles -/

theorem half_disj (t t' : Fin 2) (h : t ≠ t') : Disjoint (halfR t).set (halfR t').set := by
  rw [Finset.disjoint_left]
  intro i hi hi'
  have h0 := (Rect.mem_set_unit.mp hi) 0
  have h1 := (Rect.mem_set_unit.mp hi') 0
  have e0 : 512 * t.val ≤ (i 0).val ∧ (i 0).val < 512 * t.val + 512 := h0
  have e1 : 512 * t'.val ≤ (i 0).val ∧ (i 0).val < 512 * t'.val + 512 := h1
  exact h (Fin.ext (by omega))

theorem half_cover : (Finset.univ : Finset (Fin 2)).biUnion (fun t => (halfR t).set) = Finset.univ := by
  ext i
  simp only [Finset.mem_univ, iff_true]
  have b0 : (i 0).val < 1024 := (i 0).isLt
  have b1 : (i 1).val < 4096 := (i 1).isLt
  refine Finset.mem_biUnion.mpr ⟨⟨(i 0).val / 512, by omega⟩, Finset.mem_univ _, Rect.mem_set_unit.mpr ?_⟩
  intro a
  match a with
  | ⟨0, _⟩ =>
    show 512 * ((i 0).val / 512) ≤ (i 0).val ∧ (i 0).val < 512 * ((i 0).val / 512) + 512
    omega
  | ⟨1, _⟩ =>
    show 0 ≤ (i 1).val ∧ (i 1).val < 0 + 4096
    omega

theorem sub_disj (t t' : Fin 2) (h : t ≠ t') : Disjoint (subR t).set (subR t').set := by
  rw [Finset.disjoint_left]
  intro i hi hi'
  have h0 := (Rect.mem_set_unit.mp hi) 0
  have h1 := (Rect.mem_set_unit.mp hi') 0
  have e0 : 256 * t.val ≤ (i 0).val ∧ (i 0).val < 256 * t.val + 256 := h0
  have e1 : 256 * t'.val ≤ (i 0).val ∧ (i 0).val < 256 * t'.val + 256 := h1
  exact h (Fin.ext (by omega))

theorem sub_cover : (Finset.univ : Finset (Fin 2)).biUnion (fun t => (subR t).set) = Finset.univ := by
  ext i
  simp only [Finset.mem_univ, iff_true]
  have b0 : (i 0).val < 512 := (i 0).isLt
  have b1 : (i 1).val < 4096 := (i 1).isLt
  refine Finset.mem_biUnion.mpr ⟨⟨(i 0).val / 256, by omega⟩, Finset.mem_univ _, Rect.mem_set_unit.mpr ?_⟩
  intro a
  match a with
  | ⟨0, _⟩ =>
    show 256 * ((i 0).val / 256) ≤ (i 0).val ∧ (i 0).val < 256 * ((i 0).val / 256) + 256
    omega
  | ⟨1, _⟩ =>
    show 0 ≤ (i 1).val ∧ (i 1).val < 0 + 4096
    omega

theorem slot_inb {n a b : ℕ} (t : Fin n) : ∀ x, (![t.val, 0, 0] : Fin 3 → ℕ) x + (⟨3, ![1, a, b]⟩ : Shape).size x ≤ (⟨3, ![n, a, b]⟩ : Shape).size x := by
  intro x
  match x with
  | ⟨0, _⟩ => show t.val + 1 ≤ n; have := t.isLt; omega
  | ⟨1, _⟩ => show 0 + a ≤ a; omega
  | ⟨2, _⟩ => show 0 + b ≤ b; omega

/-- Slot `t` of a buffer of `n` slots. -/
abbrev slotR {n a b : ℕ} (t : Fin n) : Rect ⟨3, ![n, a, b]⟩ := Rect.unit (s := ⟨3, ![n, a, b]⟩) ![t.val, 0, 0] (⟨3, ![1, a, b]⟩ : Shape).size (slot_inb t)

theorem slot_disj {n a b : ℕ} (t t' : Fin n) (h : t ≠ t') : Disjoint (slotR (a := a) (b := b) t).set (slotR t').set := by
  rw [Finset.disjoint_left]
  intro i hi hi'
  have h0 := (Rect.mem_set_unit.mp hi) 0
  have h1 := (Rect.mem_set_unit.mp hi') 0
  have e0 : t.val ≤ (i 0).val ∧ (i 0).val < t.val + 1 := h0
  have e1 : t'.val ≤ (i 0).val ∧ (i 0).val < t'.val + 1 := h1
  exact h (Fin.ext (by omega))

theorem slot_cover {n a b : ℕ} : (Finset.univ : Finset (Fin n)).biUnion (fun t => (slotR (a := a) (b := b) t).set) = Finset.univ := by
  ext i
  simp only [Finset.mem_univ, iff_true]
  have b1 : (i 1).val < a := (i 1).isLt
  have b2 : (i 2).val < b := (i 2).isLt
  refine Finset.mem_biUnion.mpr ⟨⟨(i 0).val, (i 0).isLt⟩, Finset.mem_univ _, Rect.mem_set_unit.mpr ?_⟩
  intro x
  match x with
  | ⟨0, _⟩ => show (i 0).val ≤ (i 0).val ∧ (i 0).val < (i 0).val + 1; omega
  | ⟨1, _⟩ => show 0 ≤ (i 1).val ∧ (i 1).val < 0 + a; omega
  | ⟨2, _⟩ => show 0 ≤ (i 2).val ∧ (i 2).val < 0 + b; omega

/-- The window of the result at pair `(d, k)`. -/
theorem out_disj (t t' : Dev nD × Fin 4) (h : t ≠ t') : Disjoint (outR t.1 t.2).set (outR t'.1 t'.2).set := by
  rw [Finset.disjoint_left]
  intro i hi hi'
  have h0 := (Rect.mem_set_unit.mp hi) 0
  have h1 := (Rect.mem_set_unit.mp hi') 0
  have e0 : 1024 * t.1.val + 256 * t.2.val ≤ (i 0).val ∧ (i 0).val < 1024 * t.1.val + 256 * t.2.val + 256 := h0
  have e1 : 1024 * t'.1.val + 256 * t'.2.val ≤ (i 0).val ∧ (i 0).val < 1024 * t'.1.val + 256 * t'.2.val + 256 := h1
  have := t.2.isLt
  have := t'.2.isLt
  exact h (Prod.ext (Fin.ext (by omega)) (Fin.ext (by omega)))

theorem out_cover : (Finset.univ : Finset (Dev nD × Fin 4)).biUnion (fun t => (outR t.1 t.2).set) = Finset.univ := by
  ext i
  simp only [Finset.mem_univ, iff_true]
  have b0 : (i 0).val < 4096 := (i 0).isLt
  have b1 : (i 1).val < 2048 := (i 1).isLt
  refine Finset.mem_biUnion.mpr ⟨(⟨(i 0).val / 1024, by show _ < 4; omega⟩, ⟨(i 0).val % 1024 / 256, by omega⟩), Finset.mem_univ _, Rect.mem_set_unit.mpr ?_⟩
  intro a
  match a with
  | ⟨0, _⟩ =>
    show 1024 * ((i 0).val / 1024) + 256 * ((i 0).val % 1024 / 256) ≤ (i 0).val ∧ (i 0).val < 1024 * ((i 0).val / 1024) + 256 * ((i 0).val % 1024 / 256) + 256
    omega
  | ⟨1, _⟩ =>
    show 0 ≤ (i 1).val ∧ (i 1).val < 0 + 2048
    omega

/-! ## A quarter of a slot is a slice of the slot -/

section Quarters
omit [FloatOps F]
variable (c : Thread nD τ) {sp : Space} {e : EltTy} (V : Memref sig c.2.kind sp S2x512x4096 e)

theorem quarter_idx (j h : ℕ) (p : ∀ a, (![j, 256 * h, 0] : Fin 3 → ℕ) a + S1x256x4096.size a ≤ S2x512x4096.size a)
    (p' : ∀ a, (![j, 0, 0] : Fin 3 → ℕ) a + S1x512x4096.size a ≤ S2x512x4096.size a) (p'' : ∀ a, (![256 * h, 0] : Fin 2 → ℕ) a + S256x4096.size a ≤ S512x4096.size a)
    (i : S256x4096.Idx) :
    (Rect.unit (s := S2x512x4096) ![j, 256 * h, 0] S1x256x4096.size p).emb (Shape.reshapeEquiv squeezes_S1x256x4096_S256x4096.numel_eq i)
      = (Rect.unit (s := S2x512x4096) ![j, 0, 0] S1x512x4096.size p').emb
          (Shape.reshapeEquiv squeezes_S1x512x4096_S512x4096.numel_eq ((Rect.unit (s := S512x4096) ![256 * h, 0] S256x4096.size p'').emb i)) := by
  have e1 : Shape.reshapeEquiv squeezes_S1x256x4096_S256x4096.numel_eq i = Fin.cons (⟨0, Nat.one_pos⟩ : Fin 1) i :=
    Shape.reshapeEquiv_cons_one (d := ![256, 4096]) _ i
  have e2 : ∀ i : S512x4096.Idx, Shape.reshapeEquiv squeezes_S1x512x4096_S512x4096.numel_eq i = Fin.cons (⟨0, Nat.one_pos⟩ : Fin 1) i :=
    fun i => Shape.reshapeEquiv_cons_one (d := ![512, 4096]) _ i
  rw [e1, e2]
  funext a
  refine Fin.ext ?_
  match a with
  | ⟨0, _⟩ => rfl
  | ⟨1, _⟩ =>
    show 256 * h + 1 * (i 0).val = 0 + 1 * (256 * h + 1 * (i 0).val)
    omega
  | ⟨2, _⟩ =>
    show 0 + 1 * (i 1).val = 0 + 1 * (0 + 1 * (i 1).val)
    omega

theorem quarter_eq (j h : ℕ) (p) (p') (p'') (q : PosShare TreeShare) (Y : S256x4096.Idx → Elt F e) :
    (owns c ((V.slice (Rect.unit (s := S2x512x4096) ![j, 256 * h, 0] S1x256x4096.size p) (fun _ => rfl)).squeeze S256x4096 squeezes_S1x256x4096_S256x4096) q Y : sProp 𝕄)
      = owns c (((V.slice (Rect.unit (s := S2x512x4096) ![j, 0, 0] S1x512x4096.size p') (fun _ => rfl)).squeeze S512x4096 squeezes_S1x512x4096_S512x4096).slice
          (Rect.unit (s := S512x4096) ![256 * h, 0] S256x4096.size p'') (fun _ => rfl)) q Y := by
  let A := ((V.slice (Rect.unit (s := S2x512x4096) ![j, 256 * h, 0] S1x256x4096.size p) (fun _ => rfl)).squeeze S256x4096 squeezes_S1x256x4096_S256x4096)
  let B := (((V.slice (Rect.unit (s := S2x512x4096) ![j, 0, 0] S1x512x4096.size p') (fun _ => rfl)).squeeze S512x4096 squeezes_S1x512x4096_S512x4096).slice
          (Rect.unit (s := S512x4096) ![256 * h, 0] S256x4096.size p'') (fun _ => rfl))
  have hread : ∀ f : V.view.ty.Contents (Elt F), A.view.read (Elt F) f = B.view.read (Elt F) f := fun f => funext fun i => by
    show V.view.read (Elt F) f ((Rect.unit (s := S2x512x4096) ![j, 256 * h, 0] S1x256x4096.size p).emb (Shape.reshapeEquiv squeezes_S1x256x4096_S256x4096.numel_eq i))
      = V.view.read (Elt F) f ((Rect.unit (s := S2x512x4096) ![j, 0, 0] S1x512x4096.size p').emb
          (Shape.reshapeEquiv squeezes_S1x512x4096_S512x4096.numel_eq ((Rect.unit (s := S512x4096) ![256 * h, 0] S256x4096.size p'').emb i)))
    rw [quarter_idx]
  have hset : (show Finset V.view.ty.Idx from A.view.set) = (show Finset V.view.ty.Idx from B.view.set) := by
    have hemb : ∀ i, (show V.view.ty.Idx from A.view.emb i) = (show V.view.ty.Idx from B.view.emb i) := fun i => by
      show V.view.emb ((Rect.unit (s := S2x512x4096) ![j, 256 * h, 0] S1x256x4096.size p).emb (Shape.reshapeEquiv squeezes_S1x256x4096_S256x4096.numel_eq i))
        = V.view.emb ((Rect.unit (s := S2x512x4096) ![j, 0, 0] S1x512x4096.size p').emb
          (Shape.reshapeEquiv squeezes_S1x512x4096_S512x4096.numel_eq ((Rect.unit (s := S512x4096) ![256 * h, 0] S256x4096.size p'').emb i)))
      rw [quarter_idx]
    ext x
    constructor
    · intro hx
      obtain ⟨i, -, hi⟩ := Finset.mem_map.mp hx
      exact Finset.mem_map.mpr ⟨i, Finset.mem_univ _, (hemb i).symm.trans hi⟩
    · intro hx
      obtain ⟨i, -, hi⟩ := Finset.mem_map.mp hx
      exact Finset.mem_map.mpr ⟨i, Finset.mem_univ _, (hemb i).trans hi⟩
  show iprop(∃ f : V.view.ty.Contents (Elt F), ⌜A.view.read (Elt F) f = Y⌝ ∗ (V.view.loc c ↦[(show Finset V.view.ty.Idx from A.view.set)]{q} f))
    = iprop(∃ f : V.view.ty.Contents (Elt F), ⌜B.view.read (Elt F) f = Y⌝ ∗ (V.view.loc c ↦[(show Finset V.view.ty.Idx from B.view.set)]{q} f))
  rw [hset]
  simp only [hread]
end Quarters

end Cert.Gather
-- ==== Proof.Split.lean ====
/- The body's buffers divided and put together again. -/
module

public import proofs.«01_k».proof.Proof.Geom

@[expose] public section

noncomputable section

namespace Cert.Gather

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

instance elt_nonempty (e : EltTy) : Nonempty (Elt F e) := by
  cases e <;> first | infer_instance | exact ⟨Scalar.ofBits _ 0⟩

section
omit [FloatOps F]
theorem two {M : Type} [URA M] (Φ : Fin 2 → sProp M) : bigSep Finset.univ Φ = iprop(Φ 0 ∗ Φ 1) :=
  (bigSep_univ_eq_bigSepL [0, 1] (by decide) (by decide) Φ).trans (by rw [bigSepL_cons_cons, bigSepL_singleton]; rfl)
theorem four {M : Type} [URA M] (Φ : Fin 4 → sProp M) : bigSep Finset.univ Φ = iprop(Φ 0 ∗ Φ 1 ∗ Φ 2 ∗ Φ 3) :=
  (bigSep_univ_eq_bigSepL [0, 1, 2, 3] (by decide) (by decide) Φ).trans (by rw [bigSepL_cons_cons, bigSepL_cons_cons, bigSepL_cons_cons, bigSepL_singleton]; rfl)
end

/-- A quarter of a half of the rows is a quarter of the rows. -/
theorem half_sub (d : Dev nD) (h j : Fin 2) (k : Fin 4) (hk : k.val = 2 * h.val + j.val) :
    (fun i => xh m ρ d h ((subR j).emb i)) = xq m ρ d k := by
  funext i
  show xC m ρ d _ = xC m ρ d _
  congr 1
  funext a
  refine Fin.ext ?_
  match a with
  | ⟨0, _⟩ =>
    show 512 * h.val + 1 * (256 * j.val + 1 * (i 0).val) = 256 * k.val + 1 * (i 0).val
    omega
  | ⟨1, _⟩ =>
    show 0 + 1 * (0 + 1 * (i 1).val) = 0 + 1 * (i 1).val
    omega

/-! ## The rows in two halves -/

theorem x_halves (c d : Dev nD) (q : PosShare TreeShare) :
    (owns (c : Thread nD τ) xM q (xC m ρ d) : sProp 𝕄) ⊢ iprop(owns (c : Thread nD τ) x0 q (xh m ρ d 0) ∗ owns (c : Thread nD τ) x1 q (xh m ρ d 1)) := by
  refine (owns_rects (c : Thread nD τ) xM q halfR (fun _ _ => rfl) half_disj half_cover (xC m ρ d)).trans ?_
  rw [two]
  exact .rfl

theorem x_whole (c d : Dev nD) (q : PosShare TreeShare) :
    iprop(owns (c : Thread nD τ) x0 q (xh m ρ d 0) ∗ owns (c : Thread nD τ) x1 q (xh m ρ d 1)) ⊢ (owns (c : Thread nD τ) xM q (xC m ρ d) : sProp 𝕄) := by
  refine .trans ?_ (owns_of_rects (c : Thread nD τ) xM q halfR (fun _ _ => rfl) half_disj half_cover (xC m ρ d))
  rw [two]
  exact .rfl

theorem x_split (c : Dev nD) : (owns (c : Thread nD τ) xM fullShare (xC m ρ c) : sProp 𝕄)
    ⊢ iprop(owns (c : Thread nD τ) xM qK (xC m ρ c)
      ∗ (owns (c : Thread nD τ) x0 qA (xh m ρ c 0) ∗ owns (c : Thread nD τ) x1 qA (xh m ρ c 1))
      ∗ (owns (c : Thread nD τ) x0 qB (xh m ρ c 0) ∗ owns (c : Thread nD τ) x1 qB (xh m ρ c 1))) := by
  iintro H
  ihave H := (owns_share (c : Thread nD τ) xM fullShare (xC m ρ c)) $$ H
  icases H with ⟨HK, H⟩
  ihave H := (owns_share (c : Thread nD τ) xM fullShare.right (xC m ρ c)) $$ H
  icases H with ⟨HA, HB⟩
  isplitl [HK]; · iexact HK
  isplitl [HA]
  · iapply (x_halves m ρ c c qA); iexact HA
  iapply (x_halves m ρ c c qB); iexact HB

theorem x_join (c : Dev nD) :
    iprop(owns (c : Thread nD τ) xM qK (xC m ρ c)
      ∗ (owns (c : Thread nD τ) x0 qA (xh m ρ c 0) ∗ owns (c : Thread nD τ) x1 qA (xh m ρ c 1))
      ∗ (owns (c : Thread nD τ) x0 qB (xh m ρ c 0) ∗ owns (c : Thread nD τ) x1 qB (xh m ρ c 1)))
    ⊢ (owns (c : Thread nD τ) xM fullShare (xC m ρ c) : sProp 𝕄) := by
  iintro ⟨HK, HA, HB⟩
  ihave HA := (x_whole m ρ c c qA) $$ HA
  ihave HB := (x_whole m ρ c c qB) $$ HB
  iapply (owns_unshare (c : Thread nD τ) xM fullShare (xC m ρ c))
  isplitl [HK]; · iexact HK
  iapply (owns_unshare (c : Thread nD τ) xM fullShare.right (xC m ρ c))
  isplitl [HA]; · iexact HA
  iexact HB

/-! ## A slot in two quarters -/

section Slot
omit [FloatOps F]
variable (c : Dev nD) (V : Memref sig .tc .vmem S2x512x4096 .i8) (j : ℕ)
  (p' : ∀ a, (![j, 0, 0] : Fin 3 → ℕ) a + S1x512x4096.size a ≤ S2x512x4096.size a)
  (p0 : ∀ a, (![j, 0, 0] : Fin 3 → ℕ) a + S1x256x4096.size a ≤ S2x512x4096.size a)
  (p1 : ∀ a, (![j, 256, 0] : Fin 3 → ℕ) a + S1x256x4096.size a ≤ S2x512x4096.size a)

abbrev slotM : Memref sig .tc .vmem S512x4096 .i8 := (V.slice (Rect.unit (s := S2x512x4096) ![j, 0, 0] S1x512x4096.size p') (fun _ => rfl)).squeeze S512x4096 squeezes_S1x512x4096_S512x4096
abbrev quarM (o : ℕ) (p : ∀ a, (![j, o, 0] : Fin 3 → ℕ) a + S1x256x4096.size a ≤ S2x512x4096.size a) : Memref sig .tc .vmem S256x4096 .i8 :=
  (V.slice (Rect.unit (s := S2x512x4096) ![j, o, 0] S1x256x4096.size p) (fun _ => rfl)).squeeze S256x4096 squeezes_S1x256x4096_S256x4096

theorem quarters (q : PosShare TreeShare) (X : S512x4096.Idx → Elt F .i8) :
    (owns (c : Thread nD τ) (slotM V j p') q X : sProp 𝕄)
      ⊢ iprop(owns (c : Thread nD τ) (quarM V j 0 p0) q (fun i => X ((subR 0).emb i)) ∗ owns (c : Thread nD τ) (quarM V j 256 p1) q (fun i => X ((subR 1).emb i))) := by
  refine (owns_rects (c : Thread nD τ) (slotM V j p') q subR (fun _ _ => rfl) sub_disj sub_cover X).trans ?_
  rw [two]
  refine sep_mono (Entails.of_eq ?_) (Entails.of_eq ?_)
  · exact (quarter_eq (c : Thread nD τ) V j 0 p0 p' (sub_inb 0) q _).symm
  · exact (quarter_eq (c : Thread nD τ) V j 1 p1 p' (sub_inb 1) q _).symm

theorem of_quarters [∀ e, Nonempty (Elt F e)] (q : PosShare TreeShare) (X : S512x4096.Idx → Elt F .i8) :
    iprop(owns (c : Thread nD τ) (quarM V j 0 p0) q (fun i => X ((subR 0).emb i)) ∗ owns (c : Thread nD τ) (quarM V j 256 p1) q (fun i => X ((subR 1).emb i)))
      ⊢ (owns (c : Thread nD τ) (slotM V j p') q X : sProp 𝕄) := by
  refine .trans ?_ (owns_of_rects (c : Thread nD τ) (slotM V j p') q subR (fun _ _ => rfl) sub_disj sub_cover X)
  rw [two]
  refine sep_mono (Entails.of_eq ?_) (Entails.of_eq ?_)
  · exact (quarter_eq (c : Thread nD τ) V j 0 p0 p' (sub_inb 0) q _)
  · exact (quarter_eq (c : Thread nD τ) V j 1 p1 p' (sub_inb 1) q _)
end Slot

theorem l0_split (c d : Dev nD) : (owns (c : Thread nD τ) l0 fullShare (xh m ρ d 0) : sProp 𝕄)
    ⊢ iprop(owns (c : Thread nD τ) l0 qK (xh m ρ d 0) ∗ owns (c : Thread nD τ) l00 qL (xq m ρ d 0) ∗ owns (c : Thread nD τ) l01 qL (xq m ρ d 1)) := by
  rw [← half_sub m ρ d 0 0 0 rfl, ← half_sub m ρ d 0 1 1 rfl]
  iintro H
  ihave H := (owns_share (c : Thread nD τ) l0 fullShare (xh m ρ d 0)) $$ H
  icases H with ⟨HK, H⟩
  isplitl [HK]; · iexact HK
  iapply (quarters c lM 0 inb_S2x512x4096_S1x512x4096_0_0_0 inb_S2x512x4096_S1x256x4096_0_0_0 inb_S2x512x4096_S1x256x4096_0_256_0 qL (xh m ρ d 0)); iexact H

theorem l0_join (c d : Dev nD) :
    iprop(owns (c : Thread nD τ) l0 qK (xh m ρ d 0) ∗ owns (c : Thread nD τ) l00 qL (xq m ρ d 0) ∗ owns (c : Thread nD τ) l01 qL (xq m ρ d 1))
    ⊢ (any (c : Thread nD τ) l0 : sProp 𝕄) := by
  rw [← half_sub m ρ d 0 0 0 rfl, ← half_sub m ρ d 0 1 1 rfl]
  iintro ⟨HK, H⟩
  iapply (any_of_owns (c : Thread nD τ) l0 (xh m ρ d 0))
  iapply (owns_unshare (c : Thread nD τ) l0 fullShare (xh m ρ d 0))
  isplitl [HK]; · iexact HK
  iapply (of_quarters c lM 0 inb_S2x512x4096_S1x512x4096_0_0_0 inb_S2x512x4096_S1x256x4096_0_0_0 inb_S2x512x4096_S1x256x4096_0_256_0 qL (xh m ρ d 0)); iexact H

theorem r1_split (c d : Dev nD) : (owns (c : Thread nD τ) r1 fullShare (xh m ρ d 1) : sProp 𝕄)
    ⊢ iprop(owns (c : Thread nD τ) r1 qK (xh m ρ d 1) ∗ owns (c : Thread nD τ) r10 qL (xq m ρ d 2) ∗ owns (c : Thread nD τ) r11 qL (xq m ρ d 3)) := by
  rw [← half_sub m ρ d 1 0 2 rfl, ← half_sub m ρ d 1 1 3 rfl]
  iintro H
  ihave H := (owns_share (c : Thread nD τ) r1 fullShare (xh m ρ d 1)) $$ H
  icases H with ⟨HK, H⟩
  isplitl [HK]; · iexact HK
  iapply (quarters c rM 1 inb_S2x512x4096_S1x512x4096_1_0_0 inb_S2x512x4096_S1x256x4096_1_0_0 inb_S2x512x4096_S1x256x4096_1_256_0 qL (xh m ρ d 1)); iexact H

theorem r1_join (c d : Dev nD) :
    iprop(owns (c : Thread nD τ) r1 qK (xh m ρ d 1) ∗ owns (c : Thread nD τ) r10 qL (xq m ρ d 2) ∗ owns (c : Thread nD τ) r11 qL (xq m ρ d 3))
    ⊢ (any (c : Thread nD τ) r1 : sProp 𝕄) := by
  rw [← half_sub m ρ d 1 0 2 rfl, ← half_sub m ρ d 1 1 3 rfl]
  iintro ⟨HK, H⟩
  iapply (any_of_owns (c : Thread nD τ) r1 (xh m ρ d 1))
  iapply (owns_unshare (c : Thread nD τ) r1 fullShare (xh m ρ d 1))
  isplitl [HK]; · iexact HK
  iapply (of_quarters c rM 1 inb_S2x512x4096_S1x512x4096_1_0_0 inb_S2x512x4096_S1x256x4096_1_0_0 inb_S2x512x4096_S1x256x4096_1_256_0 qL (xh m ρ d 1)); iexact H

/-! ## The scratch buffers in slots -/

section Scratch
variable (c : Dev nD)

theorem any_two {a b : ℕ} {e : EltTy} (V : Memref sig .tc .vmem ⟨3, ![2, a, b]⟩ e)
    (hq : (⟨3, ![1, a, b]⟩ : Shape).Squeezes ⟨2, ![a, b]⟩) :
    (any (c : Thread nD τ) V : sProp 𝕄) ⊢ iprop(any (c : Thread nD τ) ((V.slice (slotR 0) (fun _ => rfl)).squeeze ⟨2, ![a, b]⟩ hq)
      ∗ any (c : Thread nD τ) ((V.slice (slotR 1) (fun _ => rfl)).squeeze ⟨2, ![a, b]⟩ hq)) := by
  refine (any_rects (c : Thread nD τ) V slotR (fun _ _ => rfl) slot_disj slot_cover).trans ?_
  rw [two, any_squeeze, any_squeeze]

theorem any_of_two {a b : ℕ} {e : EltTy} (V : Memref sig .tc .vmem ⟨3, ![2, a, b]⟩ e)
    (hq : (⟨3, ![1, a, b]⟩ : Shape).Squeezes ⟨2, ![a, b]⟩) :
    iprop(any (c : Thread nD τ) ((V.slice (slotR 0) (fun _ => rfl)).squeeze ⟨2, ![a, b]⟩ hq)
      ∗ any (c : Thread nD τ) ((V.slice (slotR 1) (fun _ => rfl)).squeeze ⟨2, ![a, b]⟩ hq)) ⊢ (any (c : Thread nD τ) V : sProp 𝕄) := by
  refine .trans ?_ (any_of_rects (c : Thread nD τ) V slotR (fun _ _ => rfl) slot_disj slot_cover (fun _ => Classical.arbitrary _))
  rw [two, any_squeeze, any_squeeze]

theorem l_split : (any (c : Thread nD τ) lM : sProp 𝕄) ⊢ iprop(any (c : Thread nD τ) l0 ∗ any (c : Thread nD τ) l1) := any_two c lM _
theorem r_split : (any (c : Thread nD τ) rM : sProp 𝕄) ⊢ iprop(any (c : Thread nD τ) r0 ∗ any (c : Thread nD τ) r1) := any_two c rM _
theorem y_split : (any (c : Thread nD τ) yM : sProp 𝕄) ⊢ iprop(any (c : Thread nD τ) y0 ∗ any (c : Thread nD τ) y1) := any_two c yM _
theorem l_join : iprop(any (c : Thread nD τ) l0 ∗ any (c : Thread nD τ) l1) ⊢ (any (c : Thread nD τ) lM : sProp 𝕄) := any_of_two c lM _
theorem r_join : iprop(any (c : Thread nD τ) r0 ∗ any (c : Thread nD τ) r1) ⊢ (any (c : Thread nD τ) rM : sProp 𝕄) := any_of_two c rM _
theorem y_join : iprop(any (c : Thread nD τ) y0 ∗ any (c : Thread nD τ) y1) ⊢ (any (c : Thread nD τ) yM : sProp 𝕄) := any_of_two c yM _

theorem o_split : (any (c : Thread nD τ) oM : sProp 𝕄) ⊢ iprop(any (c : Thread nD τ) o0 ∗ any (c : Thread nD τ) o1 ∗ any (c : Thread nD τ) o2 ∗ any (c : Thread nD τ) o3) := by
  refine (any_rects (c : Thread nD τ) oM (slotR (n := 4) (a := 256) (b := 4096)) (fun _ _ => rfl) slot_disj slot_cover).trans ?_
  rw [four, any_squeeze, any_squeeze, any_squeeze, any_squeeze]
  exact .rfl
theorem o_join : iprop(any (c : Thread nD τ) o0 ∗ any (c : Thread nD τ) o1 ∗ any (c : Thread nD τ) o2 ∗ any (c : Thread nD τ) o3) ⊢ (any (c : Thread nD τ) oM : sProp 𝕄) := by
  refine .trans ?_ (any_of_rects (c : Thread nD τ) oM (slotR (n := 4) (a := 256) (b := 4096)) (fun _ _ => rfl) slot_disj slot_cover (fun _ => Classical.arbitrary _))
  rw [four, any_squeeze, any_squeeze, any_squeeze, any_squeeze]
  exact .rfl

end Scratch

/-! ## The result in its windows -/

/-- The row of its block a row of the result is, and the column. -/
def inBlock (i : S4096x2048.Idx) : S256x2048.Idx := fun a => match a with
  | ⟨0, _⟩ => ⟨(i 0).val % 256, Nat.mod_lt _ (by decide)⟩
  | ⟨1, _⟩ => ⟨(i 1).val, (i 1).isLt⟩

/-- The result on device `c`, row block by row block. -/
def outC (c : Dev nD) : S4096x2048.Idx → Elt F .f32 := fun i =>
  tile m ρ c ⟨(i 0).val / 1024, by have : (i 0).val < 4096 := (i 0).isLt; show _ < 4; omega⟩ ⟨(i 0).val % 1024 / 256, by omega⟩ (inBlock i)

theorem outC_emb (c d : Dev nD) (k : Fin 4) : (fun j => outC m ρ c ((outR d k).emb j)) = tile m ρ c d k := by
  funext j
  have hj : (j 0).val < 256 := (j 0).isLt
  have hk := k.isLt
  have hd : d.val < 4 := d.isLt
  have e : (((outR d k).emb j) 0).val = 1024 * d.val + 256 * k.val + 1 * (j 0).val := rfl
  unfold outC
  have e1 : (⟨(((outR d k).emb j) 0).val / 1024, by rw [e]; show _ < 4; omega⟩ : Dev nD) = d := Fin.ext (by show _ / 1024 = _; rw [e]; omega)
  have e2 : (⟨(((outR d k).emb j) 0).val % 1024 / 256, by omega⟩ : Fin 4) = k := Fin.ext (by show _ % 1024 / 256 = _; rw [e]; omega)
  have e3 : inBlock ((outR d k).emb j) = j := by
    funext a
    refine Fin.ext ?_
    match a with
    | ⟨0, _⟩ => show (((outR d k).emb j) 0).val % 256 = _; rw [e]; show _ = (j 0).val; omega
    | ⟨1, _⟩ => show 0 + 1 * (j 1).val = (j 1).val; omega
  rw [e1, e2, e3]

theorem z_split (c : Dev nD) : (any (c : Thread nD τ) zM : sProp 𝕄) ⊢ bigSep (Finset.univ : Finset (Dev nD × Fin 4)) fun t => any (c : Thread nD τ) (outW t.1 t.2) :=
  any_rects (c : Thread nD τ) zM (fun t : Dev nD × Fin 4 => outR t.1 t.2) (fun _ _ => rfl) out_disj out_cover

theorem z_join (c : Dev nD) : (bigSep (Finset.univ : Finset (Dev nD × Fin 4)) fun t => owns (c : Thread nD τ) (outW t.1 t.2) fullShare (tile m ρ c t.1 t.2))
    ⊢ (owns (c : Thread nD τ) zM fullShare (outC m ρ c) : sProp 𝕄) := by
  refine .trans (Entails.of_eq (bigSep_congr fun t _ => ?_)) (owns_of_rects (c : Thread nD τ) zM fullShare (fun t : Dev nD × Fin 4 => outR t.1 t.2) (fun _ _ => rfl) out_disj out_cover (outC m ρ c))
  rw [outC_emb]

/-- Over the devices in the order a device meets their rows: its own, its left neighbour's, its right neighbour's, the opposite one's. -/
theorem around {M : Type} [URA M] (c : Dev nD) (Φ : Dev nD → sProp M) : bigSep Finset.univ Φ = iprop(Φ c ∗ Φ (prv c) ∗ Φ (nxt c) ∗ Φ (opp c)) := by
  refine (bigSep_univ_eq_bigSepL [c, prv c, nxt c, opp c] (by revert c; decide) (by revert c; decide) Φ).trans ?_
  rw [bigSepL_cons_cons, bigSepL_cons_cons, bigSepL_cons_cons, bigSepL_singleton]; rfl

theorem windows (c : Dev nD) (Φ : Dev nD × Fin 4 → sProp 𝕄) : bigSep Finset.univ Φ
    = iprop((Φ (c, 0) ∗ Φ (c, 1) ∗ Φ (c, 2) ∗ Φ (c, 3)) ∗ (Φ (prv c, 0) ∗ Φ (prv c, 1) ∗ Φ (prv c, 2) ∗ Φ (prv c, 3))
      ∗ (Φ (nxt c, 0) ∗ Φ (nxt c, 1) ∗ Φ (nxt c, 2) ∗ Φ (nxt c, 3)) ∗ (Φ (opp c, 0) ∗ Φ (opp c, 1) ∗ Φ (opp c, 2) ∗ Φ (opp c, 3))) := by
  rw [bigSep_univ_prod, around c, four, four, four, four]

end Cert.Gather
-- ==== Proof.Value.lean ====
/- The values of a block: what the printed payloads compute, and the windows the printed offsets name. -/
module

public import proofs.«01_k».proof.Proof.Split

@[expose] public section

noncomputable section

namespace Cert.Gather

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The payloads -/

section Pays
variable (s : F .f32) (x : Vec F S256x4096 .i8) (w : Vec F S4096x2048 .i8)

/-- A block as it is stored, with a leading axis of size one. -/
abbrev boxed (T : FVec F S256x2048 .f32) : FVec F S1x256x2048 .f32 := shapeCast S1x256x2048 T shapeCasts_S256x2048_S1x256x2048

theorem unbox (T : FVec F S256x2048 .f32) (v : FVec F S1x256x2048 .f32) (h : v = boxed T) :
    (fun j => v (Shape.reshapeEquiv squeezes_S1x256x2048_S256x2048.numel_eq j)) = T := by
  subst h
  exact shapeCast_shapeCast T shapeCasts_S256x2048_S1x256x2048 squeezes_S1x256x2048_S256x2048.numel_eq

theorem pay2_eq : k0_pay2 s x w = boxed (prod s x w) := by unfold k0_pay2 prod; simp only [shapeCast_self]
theorem pay3_eq : k0_pay3 s x w = boxed (prod s x w) := by unfold k0_pay3 prod; simp only [shapeCast_self]
theorem pay4_eq : k0_pay4 s x w = boxed (prod s x w) := by unfold k0_pay4 prod; simp only [shapeCast_self]
theorem pay5_eq : k0_pay5 (F := F) x = x := by unfold k0_pay5; exact shapeCast_self _ _
theorem pay6_eq : k0_pay6 s x w = boxed (prod s x w) := by unfold k0_pay6 prod; simp only [shapeCast_self]
theorem pay9_eq : k0_pay9 (k0_pay7 x w) (k0_pay8 s) = boxed (prod s x w) := by unfold k0_pay9 k0_pay7 k0_pay8 prod; simp only [shapeCast_self]
theorem pay13_eq : k0_pay13 s (k0_pay12 x w) = boxed (prod s x w) := by unfold k0_pay13 k0_pay12 prod; simp only [shapeCast_self]
theorem pay11_eq : k0_pay11 (k0_pay10 s x w) = boxed (prod s x w) := by unfold k0_pay11 k0_pay10 prod; simp only [shapeCast_self]
theorem pay15_eq : k0_pay15 (k0_pay14 s x w) = boxed (prod s x w) := by unfold k0_pay15 k0_pay14 prod; simp only [shapeCast_self]
theorem pay19_eq : k0_pay19 (k0_pay18 s x w) = boxed (prod s x w) := by unfold k0_pay19 k0_pay18 prod; simp only [shapeCast_self]
theorem pay21_eq : k0_pay21 (k0_pay20 s x w) = boxed (prod s x w) := by unfold k0_pay21 k0_pay20 prod; simp only [shapeCast_self]
theorem pay23_eq : k0_pay23 (k0_pay22 s x w) = boxed (prod s x w) := by unfold k0_pay23 k0_pay22 prod; simp only [shapeCast_self]
theorem pay25_eq : k0_pay25 (k0_pay24 s x w) = boxed (prod s x w) := by unfold k0_pay25 k0_pay24 prod; simp only [shapeCast_self]
theorem pay17_eq : k0_pay17 s x (k0_pay16 (F := F) w) (constantI S256x2048 32 0#32) = boxed (prod s x w) := by unfold k0_pay17 k0_pay16 prod; simp only [shapeCast_self]
theorem pay26_eq : k0_pay26 s x w = boxed (prod s x w) := by unfold k0_pay26 prod; simp only [shapeCast_self]
theorem pay27_eq : k0_pay27 s x w = boxed (prod s x w) := by unfold k0_pay27 prod; simp only [shapeCast_self]
theorem pay28_eq : k0_pay28 s x w = boxed (prod s x w) := by unfold k0_pay28 prod; simp only [shapeCast_self]
end Pays

/-! ## The windows -/

theorem win_eq {off : Fin 2 → ℕ} {p : ∀ a, off a + S256x2048.size a ≤ S4096x2048.size a} {hs} (d : Dev nD) (k : Fin 4)
    (h : off = ![1024 * d.val + 256 * k.val, 0]) : zM.slice (Rect.unit (s := S4096x2048) off S256x2048.size p) hs = outW d k :=
  Memref.slice_unit_congr zM h p (out_inb d k) hs (fun _ => rfl)

theorem w_c0 (c : Dev nD) : k0_off1 c 0#32 = ![1024 * c.val + 256 * ((0 : Fin 4)).val, 0] := by revert c; decide +kernel
theorem w_c1 (c : Dev nD) : k0_off1 c 256#32 = ![1024 * c.val + 256 * ((1 : Fin 4)).val, 0] := by revert c; decide +kernel
theorem w_c2 (c : Dev nD) : k0_off1 c 512#32 = ![1024 * c.val + 256 * ((2 : Fin 4)).val, 0] := by revert c; decide +kernel
theorem w_c3 (c : Dev nD) : k0_off1 c 768#32 = ![1024 * c.val + 256 * ((3 : Fin 4)).val, 0] := by revert c; decide +kernel
theorem w_p0 (c : Dev nD) : k0_off2 c 3#32 0#32 = ![1024 * (prv c).val + 256 * ((0 : Fin 4)).val, 0] := by revert c; decide +kernel
theorem w_p1 (c : Dev nD) : k0_off2 c 3#32 256#32 = ![1024 * (prv c).val + 256 * ((1 : Fin 4)).val, 0] := by revert c; decide +kernel
theorem w_n0 (c : Dev nD) : k0_off2 c 1#32 0#32 = ![1024 * (nxt c).val + 256 * ((0 : Fin 4)).val, 0] := by revert c; decide +kernel
theorem w_n1 (c : Dev nD) : k0_off2 c 1#32 256#32 = ![1024 * (nxt c).val + 256 * ((1 : Fin 4)).val, 0] := by revert c; decide +kernel
theorem w_o0 (c : Dev nD) : k0_off2 c 2#32 0#32 = ![1024 * (opp c).val + 256 * ((0 : Fin 4)).val, 0] := by revert c; decide +kernel
theorem w_p2 (c : Dev nD) : k0_off3 c 3#32 512#32 0#32 = ![1024 * (prv c).val + 256 * ((2 : Fin 4)).val, 0] := by revert c; decide +kernel
theorem w_p3 (c : Dev nD) : k0_off3 c 3#32 512#32 256#32 = ![1024 * (prv c).val + 256 * ((3 : Fin 4)).val, 0] := by revert c; decide +kernel
theorem w_n2 (c : Dev nD) : k0_off3 c 1#32 512#32 0#32 = ![1024 * (nxt c).val + 256 * ((2 : Fin 4)).val, 0] := by revert c; decide +kernel
theorem w_n3 (c : Dev nD) : k0_off3 c 1#32 512#32 256#32 = ![1024 * (nxt c).val + 256 * ((3 : Fin 4)).val, 0] := by revert c; decide +kernel
theorem w_o2 (c : Dev nD) : k0_off3 c 2#32 512#32 0#32 = ![1024 * (opp c).val + 256 * ((2 : Fin 4)).val, 0] := by revert c; decide +kernel
theorem w_o1 (c : Dev nD) : k0_off3 c 2#32 256#32 0#32 = ![1024 * (opp c).val + 256 * ((1 : Fin 4)).val, 0] := by revert c; decide +kernel
theorem w_o3 (c : Dev nD) : k0_off4 c = ![1024 * (opp c).val + 256 * ((3 : Fin 4)).val, 0] := by revert c; decide +kernel

/-! ## What the cells hand over, spelled out -/

section Pay
omit [FloatOps F]
variable (c : Dev nD)
theorem ps0 : pay (F := F) m ρ c (snd 0) false = owns (c : Thread nD τ) x0 qA (xh m ρ c 0) := rfl
theorem pr0 : pay (F := F) m ρ c (rcv 0) false = owns (c : Thread nD τ) l0 fullShare (xh m ρ (prv c) 0) := rfl
theorem ps1 : pay (F := F) m ρ c (snd 1) false = owns (c : Thread nD τ) x1 qA (xh m ρ c 1) := rfl
theorem pr1 : pay (F := F) m ρ c (rcv 1) false = owns (c : Thread nD τ) l1 fullShare (xh m ρ (prv c) 1) := rfl
theorem ps2 : pay (F := F) m ρ c (snd 2) false = owns (c : Thread nD τ) x0 qB (xh m ρ c 0) := rfl
theorem pr2 : pay (F := F) m ρ c (rcv 2) false = owns (c : Thread nD τ) r0 fullShare (xh m ρ (nxt c) 0) := rfl
theorem ps3 : pay (F := F) m ρ c (snd 3) false = owns (c : Thread nD τ) x1 qB (xh m ρ c 1) := rfl
theorem pr3 : pay (F := F) m ρ c (rcv 3) false = owns (c : Thread nD τ) r1 fullShare (xh m ρ (nxt c) 1) := rfl
theorem ps4 : pay (F := F) m ρ c (snd 4) false = owns (c : Thread nD τ) l00 qL (xq m ρ (prv c) 0) := rfl
theorem pr4 : pay (F := F) m ρ c (rcv 4) false = owns (c : Thread nD τ) o0 fullShare (xq m ρ (opp c) 0) := rfl
theorem ps5 : pay (F := F) m ρ c (snd 5) false = owns (c : Thread nD τ) l01 qL (xq m ρ (prv c) 1) := rfl
theorem pr5 : pay (F := F) m ρ c (rcv 5) false = owns (c : Thread nD τ) o1 fullShare (xq m ρ (opp c) 1) := rfl
theorem ps6 : pay (F := F) m ρ c (snd 6) false = owns (c : Thread nD τ) r10 qL (xq m ρ (nxt c) 2) := rfl
theorem pr6 : pay (F := F) m ρ c (rcv 6) false = owns (c : Thread nD τ) o2 fullShare (xq m ρ (opp c) 2) := rfl
theorem ps7 : pay (F := F) m ρ c (snd 7) false = owns (c : Thread nD τ) r11 qL (xq m ρ (nxt c) 3) := rfl
theorem pr7 : pay (F := F) m ρ c (rcv 7) false = owns (c : Thread nD τ) o3 fullShare (xq m ρ (opp c) 3) := rfl
theorem pd0 : pay (F := F) m ρ (dest c 0) (rcv 0) false = owns (dest c 0 : Thread nD τ) l0 fullShare (xh m ρ c 0) := by
  show pay (F := F) m ρ (nxt c) (rcv 0) false = owns (nxt c : Thread nD τ) l0 fullShare (xh m ρ c 0)
  rw [pr0, prv_nxt]
theorem pd1 : pay (F := F) m ρ (dest c 1) (rcv 1) false = owns (dest c 1 : Thread nD τ) l1 fullShare (xh m ρ c 1) := by
  show pay (F := F) m ρ (nxt c) (rcv 1) false = owns (nxt c : Thread nD τ) l1 fullShare (xh m ρ c 1)
  rw [pr1, prv_nxt]
theorem pd2 : pay (F := F) m ρ (dest c 2) (rcv 2) false = owns (dest c 2 : Thread nD τ) r0 fullShare (xh m ρ c 0) := by
  show pay (F := F) m ρ (prv c) (rcv 2) false = owns (prv c : Thread nD τ) r0 fullShare (xh m ρ c 0)
  rw [pr2, nxt_prv]
theorem pd3 : pay (F := F) m ρ (dest c 3) (rcv 3) false = owns (dest c 3 : Thread nD τ) r1 fullShare (xh m ρ c 1) := by
  show pay (F := F) m ρ (prv c) (rcv 3) false = owns (prv c : Thread nD τ) r1 fullShare (xh m ρ c 1)
  rw [pr3, nxt_prv]
theorem pd4 : pay (F := F) m ρ (dest c 4) (rcv 4) false = owns (dest c 4 : Thread nD τ) o0 fullShare (xq m ρ (prv c) 0) := by
  show pay (F := F) m ρ (nxt c) (rcv 4) false = owns (nxt c : Thread nD τ) o0 fullShare (xq m ρ (prv c) 0)
  rw [pr4, opp_nxt]
theorem pd5 : pay (F := F) m ρ (dest c 5) (rcv 5) false = owns (dest c 5 : Thread nD τ) o1 fullShare (xq m ρ (prv c) 1) := by
  show pay (F := F) m ρ (nxt c) (rcv 5) false = owns (nxt c : Thread nD τ) o1 fullShare (xq m ρ (prv c) 1)
  rw [pr5, opp_nxt]
theorem pd6 : pay (F := F) m ρ (dest c 6) (rcv 6) false = owns (dest c 6 : Thread nD τ) o2 fullShare (xq m ρ (nxt c) 2) := by
  show pay (F := F) m ρ (prv c) (rcv 6) false = owns (prv c : Thread nD τ) o2 fullShare (xq m ρ (nxt c) 2)
  rw [pr6, opp_prv]
theorem pd7 : pay (F := F) m ρ (dest c 7) (rcv 7) false = owns (dest c 7 : Thread nD τ) o3 fullShare (xq m ρ (nxt c) 3) := by
  show pay (F := F) m ρ (prv c) (rcv 7) false = owns (prv c : Thread nD τ) o3 fullShare (xq m ρ (nxt c) 3)
  rw [pr7, opp_prv]
end Pay

theorem rcvs_lt (c : Dev nD) (n : ℕ) (js : List (Fin 8)) (h : ∀ j ∈ js, n < lvC (rcv j)) : ∀ p ∈ rcvs c js, n < lvC p.2 := by
  intro p hp
  obtain ⟨j, hj, rfl⟩ := List.mem_map.mp hp
  exact h j hj

theorem load_step' (c : Dev nD) {α : Type} {Q : α → sProp (MT nD τ sig Unit (Elt F) ℕ UU ℕ)} {cs : CoreSpace} {s : Shape} {e : EltTy} (M : Memref sig .tc cs s e) (r : Rect s) {hl : M.view.LoadsAt r.toLoadRect}
    (q : PosShare TreeShare) (X : s.Idx → Elt F e) (Y : r.shape.Idx → Elt F e) (hY : (fun i => X (r.emb i)) = Y) {k : (r.shape.Idx → Elt F e) → Prog (TpuEff nD τ sig (Elt F) Λ₀ .tc) α} :
    (owns (c : Thread nD τ) M q X : sProp 𝕄)
      ⊢ iprop((owns (c : Thread nD τ) M q X -∗ run c (k Y) Q) -∗ run c (.op (.load M r.toLoadRect hl) k) Q) := by
  subst hY
  exact load_step c M r q X

theorem full_eq {a b : ℕ} {e : EltTy} (X : (⟨2, ![a, b]⟩ : Shape).Idx → Elt F e) (p) :
    (fun i => X ((Rect.unit (s := ⟨2, ![a, b]⟩) ![0, 0] (⟨2, ![a, b]⟩ : Shape).size p).emb i)) = X := by
  funext i
  congr 1
  funext x
  refine Fin.ext ?_
  match x with
  | ⟨0, _⟩ => show 0 + 1 * (i 0).val = (i 0).val; omega
  | ⟨1, _⟩ => show 0 + 1 * (i 1).val = (i 1).val; omega

end Cert.Gather
-- ==== Proof.PartsA.lean ====
/- The parts of the body one by one: from the barrier to the first half passed on. -/
module

public import proofs.«01_k».proof.Proof.Value

@[expose] public section

noncomputable section

namespace Cert.Gather

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- A block stored in slot 0 of the buffer of blocks. -/
theorem store_y0 (c : Dev nD) {α : Type} {Q : α → sProp (MT nD τ sig Unit (Elt F) ℕ UU ℕ)} (w : FVec F S1x256x2048 .f32) (T : FVec F S256x2048 .f32) (h : w = boxed T)
    {hx : (yM.access (Rect.unit (s := S2x256x2048) ![0, 0, 0] S1x256x2048.size inb_S2x256x2048_S1x256x2048_0_0_0)).Stores Finset.univ} {hm}
    {k : PUnit → Prog (TpuEff nD τ sig (Elt F) Λ₀ .tc) α} :
    (any (c : Thread nD τ) y0 : sProp 𝕄)
      ⊢ iprop((owns (c : Thread nD τ) y0 fullShare T -∗ run c (k ⟨⟩) Q)
        -∗ run c (.op (.store yM (Rect.unit (s := S2x256x2048) ![0, 0, 0] S1x256x2048.size inb_S2x256x2048_S1x256x2048_0_0_0) w Finset.univ hx hm) k) Q) :=
  store_step c yM (Rect.unit (s := S2x256x2048) ![0, 0, 0] S1x256x2048.size inb_S2x256x2048_S1x256x2048_0_0_0) (fun _ => rfl) squeezes_S1x256x2048_S256x2048 w T (unbox T w h)

/-- A block stored in slot 1 of the buffer of blocks. -/
theorem store_y1 (c : Dev nD) {α : Type} {Q : α → sProp (MT nD τ sig Unit (Elt F) ℕ UU ℕ)} (w : FVec F S1x256x2048 .f32) (T : FVec F S256x2048 .f32) (h : w = boxed T)
    {hx : (yM.access (Rect.unit (s := S2x256x2048) ![1, 0, 0] S1x256x2048.size inb_S2x256x2048_S1x256x2048_1_0_0)).Stores Finset.univ} {hm}
    {k : PUnit → Prog (TpuEff nD τ sig (Elt F) Λ₀ .tc) α} :
    (any (c : Thread nD τ) y1 : sProp 𝕄)
      ⊢ iprop((owns (c : Thread nD τ) y1 fullShare T -∗ run c (k ⟨⟩) Q)
        -∗ run c (.op (.store yM (Rect.unit (s := S2x256x2048) ![1, 0, 0] S1x256x2048.size inb_S2x256x2048_S1x256x2048_1_0_0) w Finset.univ hx hm) k) Q) :=
  store_step c yM (Rect.unit (s := S2x256x2048) ![1, 0, 0] S1x256x2048.size inb_S2x256x2048_S1x256x2048_1_0_0) (fun _ => rfl) squeezes_S1x256x2048_S256x2048 w T (unbox T w h)

theorem run_ret (c : Dev nD) {α : Type} {Q : α → sProp (MT nD τ sig Unit (Elt F) ℕ UU ℕ)} {a : α} : Q a ⊢ run c (.ret a) Q := by
  rw [run, wp_ret]; exact fupd_intro

theorem run_bind (c : Dev nD) {α β : Type} {Q : β → sProp (MT nD τ sig Unit (Elt F) ℕ UU ℕ)} {p : Prog (TpuEff nD τ sig (Elt F) Λ₀ .tc) α}
    {k : α → Prog (TpuEff nD τ sig (Elt F) Λ₀ .tc) β} : run c p (fun a => run c (k a) Q) ⊢ run c (p >>= k) Q := by
  unfold run; rw [wp_bind]

section Prelude
omit [FloatOps F]
variable (c : Dev nD)
theorem ow_pop (i : Fin 8) (js : List (Fin 8)) : (ow c (rcvs c (i :: js)) : sProp 𝕄) ⊢ ow c ((dest c i, rcv i) :: rcvs c js) := .rfl

/-- The slots the barrier hands over, each named by the transfer that fills it. -/
theorem bar_left : pay (F := F) m ρ c bar false ⊢ iprop(any (dest c 0 : Thread nD τ) l0 ∗ any (dest c 1 : Thread nD τ) l1
    ∗ any (dest c 4 : Thread nD τ) o0 ∗ any (dest c 5 : Thread nD τ) o1) := .rfl
theorem bar_right : pay (F := F) m ρ c bar true ⊢ iprop(any (dest c 2 : Thread nD τ) r0 ∗ any (dest c 3 : Thread nD τ) r1
    ∗ any (dest c 6 : Thread nD τ) o2 ∗ any (dest c 7 : Thread nD τ) o3) := .rfl
end Prelude

section Parts
variable (K : Dev nD × Cell → ℕ) (c : Dev nD)

theorem part1_spec {Q : (Σ' (d0 : Dev nD) (v2 : BitVec 32) (v4 : BitVec 32) (v6 : BitVec 32) (v8 : BitVec 32), F .f32) → sProp (MT nD τ sig Unit (Elt F) ℕ UU ℕ)} :
    iprop(env m ρ K
      ∗ dutyTok ER (kc (prv c) bar) 0 false
      ∗ pay m ρ (prv c) bar false
      ∗ ow c (olist c)
      ∗ dutyTok ER (kc (nxt c) bar) 0 true
      ∗ pay m ρ (nxt c) bar true
      ∗ (atPos ER (kc c bar) 0 ∅ 0 ∗ cred (tallyAt (kc c bar) () 2))
      ∗ owns (c : Thread nD τ) aM fullShare (aC m ρ c)
      ∗ owns (c : Thread nD τ) bM fullShare (bC m ρ c)
      ∗ sendRes c 0
      ∗ owns (c : Thread nD τ) x0 qA (xh m ρ c 0))
      ⊢ iprop((∀ (v2 v4 v6 v8 : BitVec 32), iprop(ow c (rcvs c [1, 2, 3, 4, 5, 6, 7])
        ∗ semVal (kc c bar) 0
        ∗ any (dest c 1 : Thread nD τ) l1
        ∗ any (dest c 2 : Thread nD τ) r0
        ∗ any (dest c 3 : Thread nD τ) r1
        ∗ any (dest c 4 : Thread nD τ) o0
        ∗ any (dest c 5 : Thread nD τ) o1
        ∗ any (dest c 6 : Thread nD τ) o2
        ∗ any (dest c 7 : Thread nD τ) o3
        ∗ owns (c : Thread nD τ) aM fullShare (aC m ρ c)
        ∗ owns (c : Thread nD τ) bM fullShare (bC m ρ c)
        ∗ waiting c (snd 0)) -∗ Q ⟨c, v2, v4, v6, v8, scl m ρ c⟩)
        -∗ run c (k0_part1 (F := F) xM (Memref.isWhole_whole _) wM (Memref.isWhole_whole _) aM (Memref.isWhole_whole _) bM (Memref.isWhole_whole _) zM (Memref.isWhole_whole _) lM (Memref.isWhole_whole _) rM (Memref.isWhole_whole _) oM (Memref.isWhole_whole _) yM (Memref.isWhole_whole _) cc0_scratch4 cc0_scratch5 cc0_scratch6 ) Q) := by
  iintro ⟨#He, HPL, HBL, HO, HPR, HBR, HBW, HA, HB, HR0, HS0⟩ Hk
  rw [k0_part1_eq_skeleton]
  unfold k0_part1_skel
  simp only [semSignalWord, semWaitWord, Prog.lift, Prog.bind_op, Prog.bind_ret, Prog.pure_eq_ret, wp_deviceId]
  iapply (signal_step m ρ K c _ (prv c) (dev1_eq c) false ((nxt c, bar) :: rcvs c [0, 1, 2, 3, 4, 5, 6, 7])) $$ [HPL HBL HO]
  · isplitr; · iexact He
    isplitl [HPL]; · iexact HPL
    isplitl [HBL]; · iexact HBL
    iexact HO
  iintro HO
  iapply (signal_step m ρ K c _ (nxt c) (dev2_eq c) true (rcvs c [0, 1, 2, 3, 4, 5, 6, 7])) $$ [HPR HBR HO]
  · isplitr; · iexact He
    isplitl [HPR]; · iexact HPR
    isplitl [HBR]; · iexact HBR
    iexact HO
  iintro HO
  iapply (bar_step m ρ K c (rcvs c [0, 1, 2, 3, 4, 5, 6, 7]) (rcvs_lt c _ [0, 1, 2, 3, 4, 5, 6, 7] (by decide))) $$ [HBW HO]
  · isplitr; · iexact He
    isplitl [HBW]; · iexact HBW
    iexact HO
  iintro ⟨⟨H1, H2⟩, HBW, HO⟩
  ihave H1 := (bar_left m ρ c) $$ H1
  icases H1 with ⟨HT0, HT1, HT4, HT5⟩
  ihave H2 := (bar_right m ρ c) $$ H2
  icases H2 with ⟨HT2, HT3, HT6, HT7⟩
  iapply (word_step c aM fullShare (aC m ρ c)) $$ HA
  iintro HA
  iapply (word_step c bM fullShare (bC m ρ c)) $$ HB
  iintro HB
  iapply (send_step m ρ K c 0 x0 l0 qA (xh m ρ c 0) _ (dev3_eq c) _ _ rfl rfl rfl (ps0 m ρ c) (pd0 m ρ c) (rcvs c [1, 2, 3, 4, 5, 6, 7])) $$ [HR0 HS0 HT0 HO]
  · isplitr; · iexact He
    isplitl [HR0]; · iexact HR0
    isplitl [HS0]; · iexact HS0
    isplitl [HT0]; · iexact HT0
    iapply (ow_pop c 0 [1, 2, 3, 4, 5, 6, 7]); iexact HO
  iintro ⟨HR0, HO⟩
  rw [show k0_pay1 (F := F) (aC m ρ c i1) (bC m ρ c i1) = scl m ρ c from rfl]
  iapply (run_ret c)
  iapply Hk
  isplitl [HO]; · iexact HO
  isplitl [HBW]; · iexact HBW
  isplitl [HT1]; · iexact HT1
  isplitl [HT2]; · iexact HT2
  isplitl [HT3]; · iexact HT3
  isplitl [HT4]; · iexact HT4
  isplitl [HT5]; · iexact HT5
  isplitl [HT6]; · iexact HT6
  isplitl [HT7]; · iexact HT7
  isplitl [HA]; · iexact HA
  isplitl [HB]; · iexact HB
  iexact HR0

theorem part2_spec {Q : (Σ' (v53 : BitVec 32), Vec F S256x4096 .i8) → sProp (MT nD τ sig Unit (Elt F) ℕ UU ℕ)} (v2 v4 v6 : BitVec 32) :
    iprop(env m ρ K
      ∗ sendRes c 1
      ∗ owns (c : Thread nD τ) x1 qA (xh m ρ c 1)
      ∗ any (dest c 1 : Thread nD τ) l1
      ∗ ow c (rcvs c [1, 2, 3, 4, 5, 6, 7])
      ∗ sendRes c 2
      ∗ owns (c : Thread nD τ) x0 qB (xh m ρ c 0)
      ∗ any (dest c 2 : Thread nD τ) r0
      ∗ sendRes c 3
      ∗ owns (c : Thread nD τ) x1 qB (xh m ρ c 1)
      ∗ any (dest c 3 : Thread nD τ) r1
      ∗ owns (c : Thread nD τ) xM qK (xC m ρ c))
      ⊢ iprop((∀ (v53 : BitVec 32), iprop(waiting c (snd 1)
        ∗ ow c (rcvs c [4, 5, 6, 7])
        ∗ waiting c (snd 2)
        ∗ waiting c (snd 3)
        ∗ owns (c : Thread nD τ) xM qK (xC m ρ c)) -∗ Q ⟨v53, xq m ρ c 0⟩)
        -∗ run c (k0_part2 (F := F) xM (Memref.isWhole_whole _) wM (Memref.isWhole_whole _) aM (Memref.isWhole_whole _) bM (Memref.isWhole_whole _) zM (Memref.isWhole_whole _) lM (Memref.isWhole_whole _) rM (Memref.isWhole_whole _) oM (Memref.isWhole_whole _) yM (Memref.isWhole_whole _) cc0_scratch4 cc0_scratch5 cc0_scratch6 c v2 v4 v6) Q) := by
  iintro ⟨#He, HR1, HS1, HT1, HO, HR2, HS2, HT2, HR3, HS3, HT3, HX⟩ Hk
  rw [k0_part2_eq_skeleton]
  unfold k0_part2_skel
  simp only [semSignalWord, semWaitWord, Prog.lift, Prog.bind_op, Prog.bind_ret, Prog.pure_eq_ret, wp_deviceId]
  iapply (send_step m ρ K c 1 x1 l1 qA (xh m ρ c 1) _ (dev4_eq c) _ _ rfl rfl rfl (ps1 m ρ c) (pd1 m ρ c) (rcvs c [2, 3, 4, 5, 6, 7])) $$ [HR1 HS1 HT1 HO]
  · isplitr; · iexact He
    isplitl [HR1]; · iexact HR1
    isplitl [HS1]; · iexact HS1
    isplitl [HT1]; · iexact HT1
    iapply (ow_pop c 1 [2, 3, 4, 5, 6, 7]); iexact HO
  iintro ⟨HR1, HO⟩
  iapply (send_step m ρ K c 2 x0 r0 qB (xh m ρ c 0) _ (dev5_eq c) _ _ rfl rfl rfl (ps2 m ρ c) (pd2 m ρ c) (rcvs c [3, 4, 5, 6, 7])) $$ [HR2 HS2 HT2 HO]
  · isplitr; · iexact He
    isplitl [HR2]; · iexact HR2
    isplitl [HS2]; · iexact HS2
    isplitl [HT2]; · iexact HT2
    iapply (ow_pop c 2 [3, 4, 5, 6, 7]); iexact HO
  iintro ⟨HR2, HO⟩
  iapply (send_step m ρ K c 3 x1 r1 qB (xh m ρ c 1) _ (dev6_eq c) _ _ rfl rfl rfl (ps3 m ρ c) (pd3 m ρ c) (rcvs c [4, 5, 6, 7])) $$ [HR3 HS3 HT3 HO]
  · isplitr; · iexact He
    isplitl [HR3]; · iexact HR3
    isplitl [HS3]; · iexact HS3
    isplitl [HT3]; · iexact HT3
    iapply (ow_pop c 3 [4, 5, 6, 7]); iexact HO
  iintro ⟨HR3, HO⟩
  iapply (load_step' c xM (Rect.unit (s := S1024x4096) ![0, 0] S256x4096.size inb_S1024x4096_S256x4096_0_0) qK (xC m ρ c) (xq m ρ c 0) (rfl)) $$ HX
  iintro HX
  iapply (run_ret c)
  iapply Hk
  isplitl [HR1]; · iexact HR1
  isplitl [HO]; · iexact HO
  isplitl [HR2]; · iexact HR2
  isplitl [HR3]; · iexact HR3
  iexact HX

theorem part3_spec {Q : PUnit → sProp (MT nD τ sig Unit (Elt F) ℕ UU ℕ)} (v53 : BitVec 32) :
    iprop(env m ρ K
      ∗ owns (c : Thread nD τ) wM fullShare (wC m ρ c)
      ∗ any (c : Thread nD τ) y0
      ∗ any (c : Thread nD τ) (outW c 0)
      ∗ semVal (oc c 0) 0
      ∗ owns (c : Thread nD τ) xM qK (xC m ρ c)
      ∗ any (c : Thread nD τ) y1)
      ⊢ iprop((iprop(owns (c : Thread nD τ) wM fullShare (wC m ρ c)
        ∗ flight c 0 y0 (outW c 0) (tile m ρ c c 0)
        ∗ owns (c : Thread nD τ) xM qK (xC m ρ c)
        ∗ owns (c : Thread nD τ) y1 fullShare (tile m ρ c c 1)) -∗ Q ⟨⟩)
        -∗ run c (k0_part3 (F := F) xM (Memref.isWhole_whole _) wM (Memref.isWhole_whole _) aM (Memref.isWhole_whole _) bM (Memref.isWhole_whole _) zM (Memref.isWhole_whole _) lM (Memref.isWhole_whole _) rM (Memref.isWhole_whole _) oM (Memref.isWhole_whole _) yM (Memref.isWhole_whole _) cc0_scratch4 cc0_scratch5 cc0_scratch6 c (scl m ρ c) v53 (xq m ρ c 0)) Q) := by
  iintro ⟨#He, HW, HY0, HDc0, HZ0, HX, HY1⟩ Hk
  rw [k0_part3_eq_skeleton]
  unfold k0_part3_skel
  simp only [semSignalWord, semWaitWord, Prog.lift, Prog.bind_op, Prog.bind_ret, Prog.pure_eq_ret, wp_deviceId]
  iapply (load_step' c wM (Rect.unit (s := S4096x2048) ![0, 0] S4096x2048.size inb_S4096x2048_S4096x2048_0_0) fullShare (wC m ρ c) (wC m ρ c) (full_eq (a := 4096) (b := 2048) _ _)) $$ HW
  iintro HW
  iapply (load_any_step c yM _ (fun _ => rfl) squeezes_S1x256x2048_S256x2048) $$ HY0
  iintro %vy HY0
  iapply (store_y0 c _ (tile m ρ c c 0) (pay2_eq (scl m ρ c) (xq m ρ c 0) (wC m ρ c))) $$ HY0
  iintro HY0
  iapply (copy_step c 0 y0 (outW c 0) (zM.slice (Rect.unit (s := S4096x2048) (k0_off1 c 0#32) S256x2048.size (k0_off1_inb c 0)) (fun _ => rfl)) (win_eq c 0 (w_c0 c)) (tile m ρ c c 0) _ rfl rfl) $$ [HY0 HDc0 HZ0]
  · isplitl [HY0]; · iexact HY0
    isplitl [HDc0]; · iexact HDc0
    iexact HZ0
  iintro HF0
  iapply (load_step' c xM (Rect.unit (s := S1024x4096) ![256, 0] S256x4096.size inb_S1024x4096_S256x4096_256_0) qK (xC m ρ c) (xq m ρ c 1) (rfl)) $$ HX
  iintro HX
  iapply (load_step' c wM (Rect.unit (s := S4096x2048) ![0, 0] S4096x2048.size inb_S4096x2048_S4096x2048_0_0) fullShare (wC m ρ c) (wC m ρ c) (full_eq (a := 4096) (b := 2048) _ _)) $$ HW
  iintro HW
  iapply (load_any_step c yM _ (fun _ => rfl) squeezes_S1x256x2048_S256x2048) $$ HY1
  iintro %vy HY1
  iapply (store_y1 c _ (tile m ρ c c 1) (pay3_eq (scl m ρ c) (xq m ρ c 1) (wC m ρ c))) $$ HY1
  iintro HY1
  iapply (run_ret c)
  iapply Hk
  isplitl [HW]; · iexact HW
  isplitl [HF0]; · iexact HF0
  isplitl [HX]; · iexact HX
  iexact HY1

theorem part4_spec {Q : (IVec S256x4096 8) → sProp (MT nD τ sig Unit (Elt F) ℕ UU ℕ)} (v53 : BitVec 32) :
    iprop(env m ρ K
      ∗ owns (c : Thread nD τ) y1 fullShare (tile m ρ c c 1)
      ∗ any (c : Thread nD τ) (outW c 1)
      ∗ semVal (oc c 1) 0
      ∗ owns (c : Thread nD τ) xM qK (xC m ρ c)
      ∗ owns (c : Thread nD τ) wM fullShare (wC m ρ c)
      ∗ flight c 0 y0 (outW c 0) (tile m ρ c c 0)
      ∗ ow c (rcvs c [4, 5, 6, 7])
      ∗ any (c : Thread nD τ) (outW c 2))
      ⊢ iprop((iprop(flight c 1 y1 (outW c 1) (tile m ρ c c 1)
        ∗ owns (c : Thread nD τ) xM qK (xC m ρ c)
        ∗ owns (c : Thread nD τ) wM fullShare (wC m ρ c)
        ∗ flight c 0 y0 (outW c 2) (tile m ρ c c 2)
        ∗ ow c (rcvs c [4, 5, 6, 7])
        ∗ owns (c : Thread nD τ) (outW c 0) fullShare (tile m ρ c c 0)) -∗ Q (xq m ρ c 3))
        -∗ run c (k0_part4 (F := F) xM (Memref.isWhole_whole _) wM (Memref.isWhole_whole _) aM (Memref.isWhole_whole _) bM (Memref.isWhole_whole _) zM (Memref.isWhole_whole _) lM (Memref.isWhole_whole _) rM (Memref.isWhole_whole _) oM (Memref.isWhole_whole _) yM (Memref.isWhole_whole _) cc0_scratch4 cc0_scratch5 cc0_scratch6 c (scl m ρ c) v53) Q) := by
  iintro ⟨#He, HY1, HDc1, HZ1, HX, HW, HF0, HO, HDc2⟩ Hk
  rw [k0_part4_eq_skeleton]
  unfold k0_part4_skel
  simp only [semSignalWord, semWaitWord, Prog.lift, Prog.bind_op, Prog.bind_ret, Prog.pure_eq_ret, wp_deviceId]
  iapply (copy_step c 1 y1 (outW c 1) (zM.slice (Rect.unit (s := S4096x2048) (k0_off1 c 256#32) S256x2048.size (k0_off1_inb c 1)) (fun _ => rfl)) (win_eq c 1 (w_c1 c)) (tile m ρ c c 1) _ rfl rfl) $$ [HY1 HDc1 HZ1]
  · isplitl [HY1]; · iexact HY1
    isplitl [HDc1]; · iexact HDc1
    iexact HZ1
  iintro HF1
  iapply (load_step' c xM (Rect.unit (s := S1024x4096) ![512, 0] S256x4096.size inb_S1024x4096_S256x4096_512_0) qK (xC m ρ c) (xq m ρ c 2) (rfl)) $$ HX
  iintro HX
  iapply (load_step' c wM (Rect.unit (s := S4096x2048) ![0, 0] S4096x2048.size inb_S4096x2048_S4096x2048_0_0) fullShare (wC m ρ c) (wC m ρ c) (full_eq (a := 4096) (b := 2048) _ _)) $$ HW
  iintro HW
  iapply (wait_out_step m ρ K c 0 y0 y0 (outW c 0) (zM.slice (Rect.unit (s := S4096x2048) (k0_off1 c 0#32) S256x2048.size (k0_off1_inb c 0)) (fun _ => rfl)) (tile m ρ c c 0) _ rfl rfl (rcvs c [4, 5, 6, 7]) (rcvs_lt c _ [4, 5, 6, 7] (by decide))) $$ [HF0 HO]
  · isplitr; · iexact He
    isplitl [HF0]; · iexact HF0
    iexact HO
  iintro ⟨⟨HDc0, HY0⟩, HZ0, HO⟩
  iapply (load_any_step c yM _ (fun _ => rfl) squeezes_S1x256x2048_S256x2048) $$ HY0
  iintro %vy HY0
  iapply (store_y0 c _ (tile m ρ c c 2) (pay4_eq (scl m ρ c) (xq m ρ c 2) (wC m ρ c))) $$ HY0
  iintro HY0
  iapply (copy_step c 0 y0 (outW c 2) (zM.slice (Rect.unit (s := S4096x2048) (k0_off1 c 512#32) S256x2048.size (k0_off1_inb c 2)) (fun _ => rfl)) (win_eq c 2 (w_c2 c)) (tile m ρ c c 2) _ rfl rfl) $$ [HY0 HDc2 HZ0]
  · isplitl [HY0]; · iexact HY0
    isplitl [HDc2]; · iexact HDc2
    iexact HZ0
  iintro HF0
  iapply (load_step' c xM (Rect.unit (s := S1024x4096) ![768, 0] S256x4096.size inb_S1024x4096_S256x4096_768_0) qK (xC m ρ c) (xq m ρ c 3) (rfl)) $$ HX
  iintro HX
  rw [pay5_eq (xq m ρ c 3)]
  iapply (run_ret c)
  iapply Hk
  isplitl [HF1]; · iexact HF1
  isplitl [HX]; · iexact HX
  isplitl [HW]; · iexact HW
  isplitl [HF0]; · iexact HF0
  isplitl [HO]; · iexact HO
  iexact HDc0

theorem part5_spec {Q : PUnit → sProp (MT nD τ sig Unit (Elt F) ℕ UU ℕ)} (v6 v53 : BitVec 32) :
    iprop(env m ρ K
      ∗ owns (c : Thread nD τ) wM fullShare (wC m ρ c)
      ∗ flight c 1 y1 (outW c 1) (tile m ρ c c 1)
      ∗ ow c (rcvs c [4, 5, 6, 7])
      ∗ any (c : Thread nD τ) (outW c 3)
      ∗ waiting c (rcv 0))
      ⊢ iprop((iprop(owns (c : Thread nD τ) wM fullShare (wC m ρ c)
        ∗ flight c 1 y1 (outW c 3) (tile m ρ c c 3)
        ∗ ow c (rcvs c [4, 5, 6, 7])
        ∗ owns (c : Thread nD τ) (outW c 1) fullShare (tile m ρ c c 1)
        ∗ semVal (kc c (rcv 0)) 0
        ∗ owns (c : Thread nD τ) l0 fullShare (xh m ρ (prv c) 0)) -∗ Q ⟨⟩)
        -∗ run c (k0_part5 (F := F) xM (Memref.isWhole_whole _) wM (Memref.isWhole_whole _) aM (Memref.isWhole_whole _) bM (Memref.isWhole_whole _) zM (Memref.isWhole_whole _) lM (Memref.isWhole_whole _) rM (Memref.isWhole_whole _) oM (Memref.isWhole_whole _) yM (Memref.isWhole_whole _) cc0_scratch4 cc0_scratch5 cc0_scratch6 c v6 (scl m ρ c) v53 (xq m ρ c 3)) Q) := by
  iintro ⟨#He, HW, HF1, HO, HDc3, HV0⟩ Hk
  rw [k0_part5_eq_skeleton]
  unfold k0_part5_skel
  simp only [semSignalWord, semWaitWord, Prog.lift, Prog.bind_op, Prog.bind_ret, Prog.pure_eq_ret, wp_deviceId]
  iapply (load_step' c wM (Rect.unit (s := S4096x2048) ![0, 0] S4096x2048.size inb_S4096x2048_S4096x2048_0_0) fullShare (wC m ρ c) (wC m ρ c) (full_eq (a := 4096) (b := 2048) _ _)) $$ HW
  iintro HW
  iapply (wait_out_step m ρ K c 1 y1 y1 (outW c 1) (zM.slice (Rect.unit (s := S4096x2048) (k0_off1 c 256#32) S256x2048.size (k0_off1_inb c 1)) (fun _ => rfl)) (tile m ρ c c 1) _ rfl rfl (rcvs c [4, 5, 6, 7]) (rcvs_lt c _ [4, 5, 6, 7] (by decide))) $$ [HF1 HO]
  · isplitr; · iexact He
    isplitl [HF1]; · iexact HF1
    iexact HO
  iintro ⟨⟨HDc1, HY1⟩, HZ1, HO⟩
  iapply (load_any_step c yM _ (fun _ => rfl) squeezes_S1x256x2048_S256x2048) $$ HY1
  iintro %vy HY1
  iapply (store_y1 c _ (tile m ρ c c 3) (pay6_eq (scl m ρ c) (xq m ρ c 3) (wC m ρ c))) $$ HY1
  iintro HY1
  iapply (copy_step c 1 y1 (outW c 3) (zM.slice (Rect.unit (s := S4096x2048) (k0_off1 c 768#32) S256x2048.size (k0_off1_inb c 3)) (fun _ => rfl)) (win_eq c 3 (w_c3 c)) (tile m ρ c c 3) _ rfl rfl) $$ [HY1 HDc3 HZ1]
  · isplitl [HY1]; · iexact HY1
    isplitl [HDc3]; · iexact HDc3
    iexact HZ1
  iintro HF1
  iapply (wait_step m ρ K c true 0 x0 l0 _ rfl rfl (rcvs c [4, 5, 6, 7]) (rcvs_lt c _ [4, 5, 6, 7] (by decide))) $$ [HV0 HO]
  · isplitr; · iexact He
    isplitl [HV0]; · iexact HV0
    iexact HO
  iintro ⟨HG0, HV0, HO⟩
  ihave HG0 := (Entails.of_eq (pr0 m ρ c)) $$ HG0
  iapply (run_ret c)
  iapply Hk
  isplitl [HW]; · iexact HW
  isplitl [HF1]; · iexact HF1
  isplitl [HO]; · iexact HO
  isplitl [HDc1]; · iexact HDc1
  isplitl [HV0]; · iexact HV0
  iexact HG0

end Parts

end Cert.Gather
-- ==== Proof.PartsB.lean ====
/- The parts of the body one by one: the blocks of the two neighbours, and the quarters passed on. -/
module

public import proofs.«01_k».proof.Proof.PartsA

@[expose] public section

noncomputable section

namespace Cert.Gather

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

section Parts
variable (K : Dev nD × Cell → ℕ) (c : Dev nD)

theorem part6_spec {Q : (Σ' (v167 : BitVec 32) (v174 : FVec F S256x2048 .f32), FVec F S256x2048 .f32) → sProp (MT nD τ sig Unit (Elt F) ℕ UU ℕ)} (v4 v6 : BitVec 32) :
    iprop(env m ρ K
      ∗ owns (c : Thread nD τ) l0 fullShare (xh m ρ (prv c) 0)
      ∗ sendRes c 4
      ∗ any (dest c 4 : Thread nD τ) o0
      ∗ ow c (rcvs c [4, 5, 6, 7])
      ∗ sendRes c 5
      ∗ any (dest c 5 : Thread nD τ) o1
      ∗ owns (c : Thread nD τ) wM fullShare (wC m ρ c))
      ⊢ iprop((∀ (v167 : BitVec 32), iprop(owns (c : Thread nD τ) l0 qK (xh m ρ (prv c) 0)
        ∗ waiting c (snd 4)
        ∗ ow c (rcvs c [6, 7])
        ∗ waiting c (snd 5)
        ∗ owns (c : Thread nD τ) wM fullShare (wC m ρ c)) -∗ Q ⟨v167, k0_pay7 (xq m ρ (prv c) 0) (wC m ρ c), k0_pay8 (scl m ρ c)⟩)
        -∗ run c (k0_part6 (F := F) xM (Memref.isWhole_whole _) wM (Memref.isWhole_whole _) aM (Memref.isWhole_whole _) bM (Memref.isWhole_whole _) zM (Memref.isWhole_whole _) lM (Memref.isWhole_whole _) rM (Memref.isWhole_whole _) oM (Memref.isWhole_whole _) yM (Memref.isWhole_whole _) cc0_scratch4 cc0_scratch5 cc0_scratch6 c v4 v6 (scl m ρ c)) Q) := by
  iintro ⟨#He, HG0, HR4, HT4, HO, HR5, HT5, HW⟩ Hk
  rw [k0_part6_eq_skeleton]
  unfold k0_part6_skel
  simp only [semSignalWord, semWaitWord, Prog.lift, Prog.bind_op, Prog.bind_ret, Prog.pure_eq_ret, wp_deviceId]
  ihave H := (l0_split m ρ c (prv c)) $$ HG0
  icases H with ⟨HG0, HS4, HS5⟩
  iapply (send_step m ρ K c 4 l00 o0 qL (xq m ρ (prv c) 0) _ (dev7_eq c) _ _ rfl rfl rfl (ps4 m ρ c) (pd4 m ρ c) (rcvs c [5, 6, 7])) $$ [HR4 HS4 HT4 HO]
  · isplitr; · iexact He
    isplitl [HR4]; · iexact HR4
    isplitl [HS4]; · iexact HS4
    isplitl [HT4]; · iexact HT4
    iapply (ow_pop c 4 [5, 6, 7]); iexact HO
  iintro ⟨HR4, HO⟩
  iapply (send_step m ρ K c 5 l01 o1 qL (xq m ρ (prv c) 1) _ (dev8_eq c) _ _ rfl rfl rfl (ps5 m ρ c) (pd5 m ρ c) (rcvs c [6, 7])) $$ [HR5 HS5 HT5 HO]
  · isplitr; · iexact He
    isplitl [HR5]; · iexact HR5
    isplitl [HS5]; · iexact HS5
    isplitl [HT5]; · iexact HT5
    iapply (ow_pop c 5 [6, 7]); iexact HO
  iintro ⟨HR5, HO⟩
  iapply (load_step' c l0 (Rect.unit (s := S512x4096) ![0, 0] S256x4096.size inb_S512x4096_S256x4096_0_0) qK (xh m ρ (prv c) 0) (xq m ρ (prv c) 0) (half_sub m ρ (prv c) 0 0 0 rfl)) $$ HG0
  iintro HG0
  iapply (load_step' c wM (Rect.unit (s := S4096x2048) ![0, 0] S4096x2048.size inb_S4096x2048_S4096x2048_0_0) fullShare (wC m ρ c) (wC m ρ c) (full_eq (a := 4096) (b := 2048) _ _)) $$ HW
  iintro HW
  iapply (run_ret c)
  iapply Hk
  isplitl [HG0]; · iexact HG0
  isplitl [HR4]; · iexact HR4
  isplitl [HO]; · iexact HO
  isplitl [HR5]; · iexact HR5
  iexact HW

theorem part7_spec {Q : (FVec F S256x2048 .f32) → sProp (MT nD τ sig Unit (Elt F) ℕ UU ℕ)} (v167 : BitVec 32) :
    iprop(env m ρ K
      ∗ flight c 0 y0 (outW c 2) (tile m ρ c c 2)
      ∗ ow c (rcvs c [6, 7])
      ∗ any (c : Thread nD τ) (outW (prv c) 0)
      ∗ owns (c : Thread nD τ) l0 qK (xh m ρ (prv c) 0)
      ∗ owns (c : Thread nD τ) wM fullShare (wC m ρ c))
      ⊢ iprop((iprop(flight c 0 y0 (outW (prv c) 0) (tile m ρ c (prv c) 0)
        ∗ ow c (rcvs c [6, 7])
        ∗ owns (c : Thread nD τ) (outW c 2) fullShare (tile m ρ c c 2)
        ∗ owns (c : Thread nD τ) l0 qK (xh m ρ (prv c) 0)
        ∗ owns (c : Thread nD τ) wM fullShare (wC m ρ c)) -∗ Q (k0_pay10 (scl m ρ c) (xq m ρ (prv c) 1) (wC m ρ c)))
        -∗ run c (k0_part7 (F := F) xM (Memref.isWhole_whole _) wM (Memref.isWhole_whole _) aM (Memref.isWhole_whole _) bM (Memref.isWhole_whole _) zM (Memref.isWhole_whole _) lM (Memref.isWhole_whole _) rM (Memref.isWhole_whole _) oM (Memref.isWhole_whole _) yM (Memref.isWhole_whole _) cc0_scratch4 cc0_scratch5 cc0_scratch6 c (scl m ρ c) v167 (k0_pay7 (xq m ρ (prv c) 0) (wC m ρ c)) (k0_pay8 (scl m ρ c))) Q) := by
  iintro ⟨#He, HF0, HO, HDp0, HG0, HW⟩ Hk
  rw [k0_part7_eq_skeleton]
  unfold k0_part7_skel
  simp only [semSignalWord, semWaitWord, Prog.lift, Prog.bind_op, Prog.bind_ret, Prog.pure_eq_ret, wp_deviceId]
  iapply (wait_out_step m ρ K c 0 y0 y0 (outW c 2) (zM.slice (Rect.unit (s := S4096x2048) (k0_off1 c 512#32) S256x2048.size (k0_off1_inb c 2)) (fun _ => rfl)) (tile m ρ c c 2) _ rfl rfl (rcvs c [6, 7]) (rcvs_lt c _ [6, 7] (by decide))) $$ [HF0 HO]
  · isplitr; · iexact He
    isplitl [HF0]; · iexact HF0
    iexact HO
  iintro ⟨⟨HDc2, HY0⟩, HZ0, HO⟩
  iapply (load_any_step c yM _ (fun _ => rfl) squeezes_S1x256x2048_S256x2048) $$ HY0
  iintro %vy HY0
  iapply (store_y0 c _ (tile m ρ c (prv c) 0) (pay9_eq (scl m ρ c) (xq m ρ (prv c) 0) (wC m ρ c))) $$ HY0
  iintro HY0
  iapply (copy_step c 0 y0 (outW (prv c) 0) (zM.slice (Rect.unit (s := S4096x2048) (k0_off2 c 3#32 0#32) S256x2048.size (k0_off2_inb c 0)) (fun _ => rfl)) (win_eq (prv c) 0 (w_p0 c)) (tile m ρ c (prv c) 0) _ rfl rfl) $$ [HY0 HDp0 HZ0]
  · isplitl [HY0]; · iexact HY0
    isplitl [HDp0]; · iexact HDp0
    iexact HZ0
  iintro HF0
  iapply (load_step' c l0 (Rect.unit (s := S512x4096) ![256, 0] S256x4096.size inb_S512x4096_S256x4096_256_0) qK (xh m ρ (prv c) 0) (xq m ρ (prv c) 1) (half_sub m ρ (prv c) 0 1 1 rfl)) $$ HG0
  iintro HG0
  iapply (load_step' c wM (Rect.unit (s := S4096x2048) ![0, 0] S4096x2048.size inb_S4096x2048_S4096x2048_0_0) fullShare (wC m ρ c) (wC m ρ c) (full_eq (a := 4096) (b := 2048) _ _)) $$ HW
  iintro HW
  iapply (run_ret c)
  iapply Hk
  isplitl [HF0]; · iexact HF0
  isplitl [HO]; · iexact HO
  isplitl [HDc2]; · iexact HDc2
  isplitl [HG0]; · iexact HG0
  iexact HW

theorem part8_spec {Q : (Σ' (v225 : BitVec 32), FVec F S256x2048 .f32) → sProp (MT nD τ sig Unit (Elt F) ℕ UU ℕ)} (v4 v6 v167 : BitVec 32) :
    iprop(env m ρ K
      ∗ flight c 1 y1 (outW c 3) (tile m ρ c c 3)
      ∗ ow c (rcvs c [6, 7])
      ∗ any (c : Thread nD τ) (outW (prv c) 1)
      ∗ waiting c (rcv 2)
      ∗ owns (c : Thread nD τ) wM fullShare (wC m ρ c))
      ⊢ iprop((∀ (v225 : BitVec 32), iprop(flight c 1 y1 (outW (prv c) 1) (tile m ρ c (prv c) 1)
        ∗ ow c (rcvs c [6, 7])
        ∗ owns (c : Thread nD τ) (outW c 3) fullShare (tile m ρ c c 3)
        ∗ semVal (kc c (rcv 2)) 0
        ∗ owns (c : Thread nD τ) r0 fullShare (xh m ρ (nxt c) 0)
        ∗ owns (c : Thread nD τ) wM fullShare (wC m ρ c)) -∗ Q ⟨v225, k0_pay12 (xq m ρ (nxt c) 0) (wC m ρ c)⟩)
        -∗ run c (k0_part8 (F := F) xM (Memref.isWhole_whole _) wM (Memref.isWhole_whole _) aM (Memref.isWhole_whole _) bM (Memref.isWhole_whole _) zM (Memref.isWhole_whole _) lM (Memref.isWhole_whole _) rM (Memref.isWhole_whole _) oM (Memref.isWhole_whole _) yM (Memref.isWhole_whole _) cc0_scratch4 cc0_scratch5 cc0_scratch6 c v4 v6 v167 (k0_pay10 (scl m ρ c) (xq m ρ (prv c) 1) (wC m ρ c))) Q) := by
  iintro ⟨#He, HF1, HO, HDp1, HV2, HW⟩ Hk
  rw [k0_part8_eq_skeleton]
  unfold k0_part8_skel
  simp only [semSignalWord, semWaitWord, Prog.lift, Prog.bind_op, Prog.bind_ret, Prog.pure_eq_ret, wp_deviceId]
  iapply (wait_out_step m ρ K c 1 y1 y1 (outW c 3) (zM.slice (Rect.unit (s := S4096x2048) (k0_off1 c 768#32) S256x2048.size (k0_off1_inb c 3)) (fun _ => rfl)) (tile m ρ c c 3) _ rfl rfl (rcvs c [6, 7]) (rcvs_lt c _ [6, 7] (by decide))) $$ [HF1 HO]
  · isplitr; · iexact He
    isplitl [HF1]; · iexact HF1
    iexact HO
  iintro ⟨⟨HDc3, HY1⟩, HZ1, HO⟩
  iapply (load_any_step c yM _ (fun _ => rfl) squeezes_S1x256x2048_S256x2048) $$ HY1
  iintro %vy HY1
  iapply (store_y1 c _ (tile m ρ c (prv c) 1) (pay11_eq (scl m ρ c) (xq m ρ (prv c) 1) (wC m ρ c))) $$ HY1
  iintro HY1
  iapply (copy_step c 1 y1 (outW (prv c) 1) (zM.slice (Rect.unit (s := S4096x2048) (k0_off2 c 3#32 256#32) S256x2048.size (k0_off2_inb c 1)) (fun _ => rfl)) (win_eq (prv c) 1 (w_p1 c)) (tile m ρ c (prv c) 1) _ rfl rfl) $$ [HY1 HDp1 HZ1]
  · isplitl [HY1]; · iexact HY1
    isplitl [HDp1]; · iexact HDp1
    iexact HZ1
  iintro HF1
  iapply (wait_step m ρ K c true 2 x0 r0 _ rfl rfl (rcvs c [6, 7]) (rcvs_lt c _ [6, 7] (by decide))) $$ [HV2 HO]
  · isplitr; · iexact He
    isplitl [HV2]; · iexact HV2
    iexact HO
  iintro ⟨HG2, HV2, HO⟩
  ihave HG2 := (Entails.of_eq (pr2 m ρ c)) $$ HG2
  iapply (load_step' c r0 (Rect.unit (s := S512x4096) ![0, 0] S256x4096.size inb_S512x4096_S256x4096_0_0) fullShare (xh m ρ (nxt c) 0) (xq m ρ (nxt c) 0) (half_sub m ρ (nxt c) 0 0 0 rfl)) $$ HG2
  iintro HG2
  iapply (load_step' c wM (Rect.unit (s := S4096x2048) ![0, 0] S4096x2048.size inb_S4096x2048_S4096x2048_0_0) fullShare (wC m ρ c) (wC m ρ c) (full_eq (a := 4096) (b := 2048) _ _)) $$ HW
  iintro HW
  iapply (run_ret c)
  iapply Hk
  isplitl [HF1]; · iexact HF1
  isplitl [HO]; · iexact HO
  isplitl [HDc3]; · iexact HDc3
  isplitl [HV2]; · iexact HV2
  isplitl [HG2]; · iexact HG2
  iexact HW

theorem part9_spec {Q : (FVec F S256x2048 .f32) → sProp (MT nD τ sig Unit (Elt F) ℕ UU ℕ)} (v225 : BitVec 32) :
    iprop(env m ρ K
      ∗ flight c 0 y0 (outW (prv c) 0) (tile m ρ c (prv c) 0)
      ∗ ow c (rcvs c [6, 7])
      ∗ any (c : Thread nD τ) (outW (nxt c) 0)
      ∗ owns (c : Thread nD τ) r0 fullShare (xh m ρ (nxt c) 0)
      ∗ owns (c : Thread nD τ) wM fullShare (wC m ρ c))
      ⊢ iprop((iprop(flight c 0 y0 (outW (nxt c) 0) (tile m ρ c (nxt c) 0)
        ∗ ow c (rcvs c [6, 7])
        ∗ owns (c : Thread nD τ) (outW (prv c) 0) fullShare (tile m ρ c (prv c) 0)
        ∗ owns (c : Thread nD τ) r0 fullShare (xh m ρ (nxt c) 0)
        ∗ owns (c : Thread nD τ) wM fullShare (wC m ρ c)) -∗ Q (k0_pay14 (scl m ρ c) (xq m ρ (nxt c) 1) (wC m ρ c)))
        -∗ run c (k0_part9 (F := F) xM (Memref.isWhole_whole _) wM (Memref.isWhole_whole _) aM (Memref.isWhole_whole _) bM (Memref.isWhole_whole _) zM (Memref.isWhole_whole _) lM (Memref.isWhole_whole _) rM (Memref.isWhole_whole _) oM (Memref.isWhole_whole _) yM (Memref.isWhole_whole _) cc0_scratch4 cc0_scratch5 cc0_scratch6 c (scl m ρ c) v225 (k0_pay12 (xq m ρ (nxt c) 0) (wC m ρ c))) Q) := by
  iintro ⟨#He, HF0, HO, HDn0, HG2, HW⟩ Hk
  rw [k0_part9_eq_skeleton]
  unfold k0_part9_skel
  simp only [semSignalWord, semWaitWord, Prog.lift, Prog.bind_op, Prog.bind_ret, Prog.pure_eq_ret, wp_deviceId]
  iapply (wait_out_step m ρ K c 0 y0 y0 (outW (prv c) 0) (zM.slice (Rect.unit (s := S4096x2048) (k0_off2 c 3#32 0#32) S256x2048.size (k0_off2_inb c 0)) (fun _ => rfl)) (tile m ρ c (prv c) 0) _ rfl rfl (rcvs c [6, 7]) (rcvs_lt c _ [6, 7] (by decide))) $$ [HF0 HO]
  · isplitr; · iexact He
    isplitl [HF0]; · iexact HF0
    iexact HO
  iintro ⟨⟨HDp0, HY0⟩, HZ0, HO⟩
  iapply (load_any_step c yM _ (fun _ => rfl) squeezes_S1x256x2048_S256x2048) $$ HY0
  iintro %vy HY0
  iapply (store_y0 c _ (tile m ρ c (nxt c) 0) (pay13_eq (scl m ρ c) (xq m ρ (nxt c) 0) (wC m ρ c))) $$ HY0
  iintro HY0
  iapply (copy_step c 0 y0 (outW (nxt c) 0) (zM.slice (Rect.unit (s := S4096x2048) (k0_off2 c 1#32 0#32) S256x2048.size (k0_off2_inb c 2)) (fun _ => rfl)) (win_eq (nxt c) 0 (w_n0 c)) (tile m ρ c (nxt c) 0) _ rfl rfl) $$ [HY0 HDn0 HZ0]
  · isplitl [HY0]; · iexact HY0
    isplitl [HDn0]; · iexact HDn0
    iexact HZ0
  iintro HF0
  iapply (load_step' c r0 (Rect.unit (s := S512x4096) ![256, 0] S256x4096.size inb_S512x4096_S256x4096_256_0) fullShare (xh m ρ (nxt c) 0) (xq m ρ (nxt c) 1) (half_sub m ρ (nxt c) 0 1 1 rfl)) $$ HG2
  iintro HG2
  iapply (load_step' c wM (Rect.unit (s := S4096x2048) ![0, 0] S4096x2048.size inb_S4096x2048_S4096x2048_0_0) fullShare (wC m ρ c) (wC m ρ c) (full_eq (a := 4096) (b := 2048) _ _)) $$ HW
  iintro HW
  iapply (run_ret c)
  iapply Hk
  isplitl [HF0]; · iexact HF0
  isplitl [HO]; · iexact HO
  isplitl [HDp0]; · iexact HDp0
  isplitl [HG2]; · iexact HG2
  iexact HW

theorem part10_spec {Q : PUnit → sProp (MT nD τ sig Unit (Elt F) ℕ UU ℕ)} (v4 v225 : BitVec 32) :
    iprop(env m ρ K
      ∗ flight c 1 y1 (outW (prv c) 1) (tile m ρ c (prv c) 1)
      ∗ ow c (rcvs c [6, 7])
      ∗ any (c : Thread nD τ) (outW (nxt c) 1)
      ∗ waiting c (rcv 3))
      ⊢ iprop((iprop(flight c 1 y1 (outW (nxt c) 1) (tile m ρ c (nxt c) 1)
        ∗ ow c (rcvs c [6, 7])
        ∗ owns (c : Thread nD τ) (outW (prv c) 1) fullShare (tile m ρ c (prv c) 1)
        ∗ semVal (kc c (rcv 3)) 0
        ∗ owns (c : Thread nD τ) r1 fullShare (xh m ρ (nxt c) 1)) -∗ Q ⟨⟩)
        -∗ run c (k0_part10 (F := F) xM (Memref.isWhole_whole _) wM (Memref.isWhole_whole _) aM (Memref.isWhole_whole _) bM (Memref.isWhole_whole _) zM (Memref.isWhole_whole _) lM (Memref.isWhole_whole _) rM (Memref.isWhole_whole _) oM (Memref.isWhole_whole _) yM (Memref.isWhole_whole _) cc0_scratch4 cc0_scratch5 cc0_scratch6 c v4 v225 (k0_pay14 (scl m ρ c) (xq m ρ (nxt c) 1) (wC m ρ c))) Q) := by
  iintro ⟨#He, HF1, HO, HDn1, HV3⟩ Hk
  rw [k0_part10_eq_skeleton]
  unfold k0_part10_skel
  simp only [semSignalWord, semWaitWord, Prog.lift, Prog.bind_op, Prog.bind_ret, Prog.pure_eq_ret, wp_deviceId]
  iapply (wait_out_step m ρ K c 1 y1 y1 (outW (prv c) 1) (zM.slice (Rect.unit (s := S4096x2048) (k0_off2 c 3#32 256#32) S256x2048.size (k0_off2_inb c 1)) (fun _ => rfl)) (tile m ρ c (prv c) 1) _ rfl rfl (rcvs c [6, 7]) (rcvs_lt c _ [6, 7] (by decide))) $$ [HF1 HO]
  · isplitr; · iexact He
    isplitl [HF1]; · iexact HF1
    iexact HO
  iintro ⟨⟨HDp1, HY1⟩, HZ1, HO⟩
  iapply (load_any_step c yM _ (fun _ => rfl) squeezes_S1x256x2048_S256x2048) $$ HY1
  iintro %vy HY1
  iapply (store_y1 c _ (tile m ρ c (nxt c) 1) (pay15_eq (scl m ρ c) (xq m ρ (nxt c) 1) (wC m ρ c))) $$ HY1
  iintro HY1
  iapply (copy_step c 1 y1 (outW (nxt c) 1) (zM.slice (Rect.unit (s := S4096x2048) (k0_off2 c 1#32 256#32) S256x2048.size (k0_off2_inb c 3)) (fun _ => rfl)) (win_eq (nxt c) 1 (w_n1 c)) (tile m ρ c (nxt c) 1) _ rfl rfl) $$ [HY1 HDn1 HZ1]
  · isplitl [HY1]; · iexact HY1
    isplitl [HDn1]; · iexact HDn1
    iexact HZ1
  iintro HF1
  iapply (wait_step m ρ K c true 3 x1 r1 _ rfl rfl (rcvs c [6, 7]) (rcvs_lt c _ [6, 7] (by decide))) $$ [HV3 HO]
  · isplitr; · iexact He
    isplitl [HV3]; · iexact HV3
    iexact HO
  iintro ⟨HG3, HV3, HO⟩
  ihave HG3 := (Entails.of_eq (pr3 m ρ c)) $$ HG3
  iapply (run_ret c)
  iapply Hk
  isplitl [HF1]; · iexact HF1
  isplitl [HO]; · iexact HO
  isplitl [HDp1]; · iexact HDp1
  isplitl [HV3]; · iexact HV3
  iexact HG3

end Parts

end Cert.Gather
-- ==== Proof.PartsC.lean ====
/- The parts of the body one by one: the other halves of the two neighbours. -/
module

public import proofs.«01_k».proof.Proof.PartsA

@[expose] public section

noncomputable section

namespace Cert.Gather

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

section Parts
variable (K : Dev nD × Cell → ℕ) (c : Dev nD)

theorem part11_spec {Q : (Σ' (v311 : BitVec 32) (v314 : Vec F S256x4096 .i8) (v316 : IVec S4096x2048 8), IVec S256x2048 32) → sProp (MT nD τ sig Unit (Elt F) ℕ UU ℕ)} (v4 v6 : BitVec 32) :
    iprop(env m ρ K
      ∗ owns (c : Thread nD τ) r1 fullShare (xh m ρ (nxt c) 1)
      ∗ sendRes c 6
      ∗ any (dest c 6 : Thread nD τ) o2
      ∗ ow c (rcvs c [6, 7])
      ∗ sendRes c 7
      ∗ any (dest c 7 : Thread nD τ) o3
      ∗ waiting c (rcv 1)
      ∗ owns (c : Thread nD τ) wM fullShare (wC m ρ c))
      ⊢ iprop((∀ (v311 : BitVec 32), iprop(owns (c : Thread nD τ) r1 qK (xh m ρ (nxt c) 1)
        ∗ waiting c (snd 6)
        ∗ ow c (rcvs c [])
        ∗ waiting c (snd 7)
        ∗ semVal (kc c (rcv 1)) 0
        ∗ owns (c : Thread nD τ) l1 fullShare (xh m ρ (prv c) 1)
        ∗ owns (c : Thread nD τ) wM fullShare (wC m ρ c)) -∗ Q ⟨v311, xq m ρ (prv c) 2, k0_pay16 (F := F) (wC m ρ c), constantI S256x2048 32 0#32⟩)
        -∗ run c (k0_part11 (F := F) xM (Memref.isWhole_whole _) wM (Memref.isWhole_whole _) aM (Memref.isWhole_whole _) bM (Memref.isWhole_whole _) zM (Memref.isWhole_whole _) lM (Memref.isWhole_whole _) rM (Memref.isWhole_whole _) oM (Memref.isWhole_whole _) yM (Memref.isWhole_whole _) cc0_scratch4 cc0_scratch5 cc0_scratch6 c v4 v6) Q) := by
  iintro ⟨#He, HG3, HR6, HT6, HO, HR7, HT7, HV1, HW⟩ Hk
  rw [k0_part11_eq_skeleton]
  unfold k0_part11_skel
  simp only [semSignalWord, semWaitWord, Prog.lift, Prog.bind_op, Prog.bind_ret, Prog.pure_eq_ret, wp_deviceId]
  ihave H := (r1_split m ρ c (nxt c)) $$ HG3
  icases H with ⟨HG3, HS6, HS7⟩
  iapply (send_step m ρ K c 6 r10 o2 qL (xq m ρ (nxt c) 2) _ (dev9_eq c) _ _ rfl rfl rfl (ps6 m ρ c) (pd6 m ρ c) (rcvs c [7])) $$ [HR6 HS6 HT6 HO]
  · isplitr; · iexact He
    isplitl [HR6]; · iexact HR6
    isplitl [HS6]; · iexact HS6
    isplitl [HT6]; · iexact HT6
    iapply (ow_pop c 6 [7]); iexact HO
  iintro ⟨HR6, HO⟩
  iapply (send_step m ρ K c 7 r11 o3 qL (xq m ρ (nxt c) 3) _ (dev10_eq c) _ _ rfl rfl rfl (ps7 m ρ c) (pd7 m ρ c) (rcvs c [])) $$ [HR7 HS7 HT7 HO]
  · isplitr; · iexact He
    isplitl [HR7]; · iexact HR7
    isplitl [HS7]; · iexact HS7
    isplitl [HT7]; · iexact HT7
    iapply (ow_pop c 7 []); iexact HO
  iintro ⟨HR7, HO⟩
  iapply (wait_step m ρ K c true 1 x1 l1 _ rfl rfl (rcvs c []) (rcvs_lt c _ [] (by decide))) $$ [HV1 HO]
  · isplitr; · iexact He
    isplitl [HV1]; · iexact HV1
    iexact HO
  iintro ⟨HG1, HV1, HO⟩
  ihave HG1 := (Entails.of_eq (pr1 m ρ c)) $$ HG1
  iapply (load_step' c l1 (Rect.unit (s := S512x4096) ![0, 0] S256x4096.size inb_S512x4096_S256x4096_0_0) fullShare (xh m ρ (prv c) 1) (xq m ρ (prv c) 2) (half_sub m ρ (prv c) 1 0 2 rfl)) $$ HG1
  iintro HG1
  iapply (load_step' c wM (Rect.unit (s := S4096x2048) ![0, 0] S4096x2048.size inb_S4096x2048_S4096x2048_0_0) fullShare (wC m ρ c) (wC m ρ c) (full_eq (a := 4096) (b := 2048) _ _)) $$ HW
  iintro HW
  iapply (run_ret c)
  iapply Hk
  isplitl [HG3]; · iexact HG3
  isplitl [HR6]; · iexact HR6
  isplitl [HO]; · iexact HO
  isplitl [HR7]; · iexact HR7
  isplitl [HV1]; · iexact HV1
  isplitl [HG1]; · iexact HG1
  iexact HW

theorem part12_spec {Q : (FVec F S256x2048 .f32) → sProp (MT nD τ sig Unit (Elt F) ℕ UU ℕ)} (v311 : BitVec 32) :
    iprop(env m ρ K
      ∗ flight c 0 y0 (outW (nxt c) 0) (tile m ρ c (nxt c) 0)
      ∗ ow c (rcvs c [])
      ∗ any (c : Thread nD τ) (outW (prv c) 2)
      ∗ owns (c : Thread nD τ) l1 fullShare (xh m ρ (prv c) 1)
      ∗ owns (c : Thread nD τ) wM fullShare (wC m ρ c))
      ⊢ iprop((iprop(flight c 0 y0 (outW (prv c) 2) (tile m ρ c (prv c) 2)
        ∗ ow c (rcvs c [])
        ∗ owns (c : Thread nD τ) (outW (nxt c) 0) fullShare (tile m ρ c (nxt c) 0)
        ∗ owns (c : Thread nD τ) l1 fullShare (xh m ρ (prv c) 1)
        ∗ owns (c : Thread nD τ) wM fullShare (wC m ρ c)) -∗ Q (k0_pay18 (scl m ρ c) (xq m ρ (prv c) 3) (wC m ρ c)))
        -∗ run c (k0_part12 (F := F) xM (Memref.isWhole_whole _) wM (Memref.isWhole_whole _) aM (Memref.isWhole_whole _) bM (Memref.isWhole_whole _) zM (Memref.isWhole_whole _) lM (Memref.isWhole_whole _) rM (Memref.isWhole_whole _) oM (Memref.isWhole_whole _) yM (Memref.isWhole_whole _) cc0_scratch4 cc0_scratch5 cc0_scratch6 c (scl m ρ c) v311 (xq m ρ (prv c) 2) (k0_pay16 (F := F) (wC m ρ c)) (constantI S256x2048 32 0#32)) Q) := by
  iintro ⟨#He, HF0, HO, HDp2, HG1, HW⟩ Hk
  rw [k0_part12_eq_skeleton]
  unfold k0_part12_skel
  simp only [semSignalWord, semWaitWord, Prog.lift, Prog.bind_op, Prog.bind_ret, Prog.pure_eq_ret, wp_deviceId]
  iapply (wait_out_step m ρ K c 0 y0 y0 (outW (nxt c) 0) (zM.slice (Rect.unit (s := S4096x2048) (k0_off2 c 1#32 0#32) S256x2048.size (k0_off2_inb c 2)) (fun _ => rfl)) (tile m ρ c (nxt c) 0) _ rfl rfl (rcvs c []) (rcvs_lt c _ [] (by decide))) $$ [HF0 HO]
  · isplitr; · iexact He
    isplitl [HF0]; · iexact HF0
    iexact HO
  iintro ⟨⟨HDn0, HY0⟩, HZ0, HO⟩
  iapply (load_any_step c yM _ (fun _ => rfl) squeezes_S1x256x2048_S256x2048) $$ HY0
  iintro %vy HY0
  iapply (store_y0 c _ (tile m ρ c (prv c) 2) (pay17_eq (scl m ρ c) (xq m ρ (prv c) 2) (wC m ρ c))) $$ HY0
  iintro HY0
  iapply (copy_step c 0 y0 (outW (prv c) 2) (zM.slice (Rect.unit (s := S4096x2048) (k0_off3 c 3#32 512#32 0#32) S256x2048.size (k0_off3_inb c 0)) (fun _ => rfl)) (win_eq (prv c) 2 (w_p2 c)) (tile m ρ c (prv c) 2) _ rfl rfl) $$ [HY0 HDp2 HZ0]
  · isplitl [HY0]; · iexact HY0
    isplitl [HDp2]; · iexact HDp2
    iexact HZ0
  iintro HF0
  iapply (load_step' c l1 (Rect.unit (s := S512x4096) ![256, 0] S256x4096.size inb_S512x4096_S256x4096_256_0) fullShare (xh m ρ (prv c) 1) (xq m ρ (prv c) 3) (half_sub m ρ (prv c) 1 1 3 rfl)) $$ HG1
  iintro HG1
  iapply (load_step' c wM (Rect.unit (s := S4096x2048) ![0, 0] S4096x2048.size inb_S4096x2048_S4096x2048_0_0) fullShare (wC m ρ c) (wC m ρ c) (full_eq (a := 4096) (b := 2048) _ _)) $$ HW
  iintro HW
  iapply (run_ret c)
  iapply Hk
  isplitl [HF0]; · iexact HF0
  isplitl [HO]; · iexact HO
  isplitl [HDn0]; · iexact HDn0
  isplitl [HG1]; · iexact HG1
  iexact HW

theorem part13_spec {Q : (Σ' (v363 : BitVec 32), FVec F S256x2048 .f32) → sProp (MT nD τ sig Unit (Elt F) ℕ UU ℕ)} (v6 v311 : BitVec 32) :
    iprop(env m ρ K
      ∗ flight c 1 y1 (outW (nxt c) 1) (tile m ρ c (nxt c) 1)
      ∗ ow c (rcvs c [])
      ∗ any (c : Thread nD τ) (outW (prv c) 3)
      ∗ owns (c : Thread nD τ) r1 qK (xh m ρ (nxt c) 1)
      ∗ owns (c : Thread nD τ) wM fullShare (wC m ρ c))
      ⊢ iprop((∀ (v363 : BitVec 32), iprop(flight c 1 y1 (outW (prv c) 3) (tile m ρ c (prv c) 3)
        ∗ ow c (rcvs c [])
        ∗ owns (c : Thread nD τ) (outW (nxt c) 1) fullShare (tile m ρ c (nxt c) 1)
        ∗ owns (c : Thread nD τ) r1 qK (xh m ρ (nxt c) 1)
        ∗ owns (c : Thread nD τ) wM fullShare (wC m ρ c)) -∗ Q ⟨v363, k0_pay20 (scl m ρ c) (xq m ρ (nxt c) 2) (wC m ρ c)⟩)
        -∗ run c (k0_part13 (F := F) xM (Memref.isWhole_whole _) wM (Memref.isWhole_whole _) aM (Memref.isWhole_whole _) bM (Memref.isWhole_whole _) zM (Memref.isWhole_whole _) lM (Memref.isWhole_whole _) rM (Memref.isWhole_whole _) oM (Memref.isWhole_whole _) yM (Memref.isWhole_whole _) cc0_scratch4 cc0_scratch5 cc0_scratch6 c v6 (scl m ρ c) v311 (k0_pay18 (scl m ρ c) (xq m ρ (prv c) 3) (wC m ρ c))) Q) := by
  iintro ⟨#He, HF1, HO, HDp3, HG3, HW⟩ Hk
  rw [k0_part13_eq_skeleton]
  unfold k0_part13_skel
  simp only [semSignalWord, semWaitWord, Prog.lift, Prog.bind_op, Prog.bind_ret, Prog.pure_eq_ret, wp_deviceId]
  iapply (wait_out_step m ρ K c 1 y1 y1 (outW (nxt c) 1) (zM.slice (Rect.unit (s := S4096x2048) (k0_off2 c 1#32 256#32) S256x2048.size (k0_off2_inb c 3)) (fun _ => rfl)) (tile m ρ c (nxt c) 1) _ rfl rfl (rcvs c []) (rcvs_lt c _ [] (by decide))) $$ [HF1 HO]
  · isplitr; · iexact He
    isplitl [HF1]; · iexact HF1
    iexact HO
  iintro ⟨⟨HDn1, HY1⟩, HZ1, HO⟩
  iapply (load_any_step c yM _ (fun _ => rfl) squeezes_S1x256x2048_S256x2048) $$ HY1
  iintro %vy HY1
  iapply (store_y1 c _ (tile m ρ c (prv c) 3) (pay19_eq (scl m ρ c) (xq m ρ (prv c) 3) (wC m ρ c))) $$ HY1
  iintro HY1
  iapply (copy_step c 1 y1 (outW (prv c) 3) (zM.slice (Rect.unit (s := S4096x2048) (k0_off3 c 3#32 512#32 256#32) S256x2048.size (k0_off3_inb c 1)) (fun _ => rfl)) (win_eq (prv c) 3 (w_p3 c)) (tile m ρ c (prv c) 3) _ rfl rfl) $$ [HY1 HDp3 HZ1]
  · isplitl [HY1]; · iexact HY1
    isplitl [HDp3]; · iexact HDp3
    iexact HZ1
  iintro HF1
  iapply (load_step' c r1 (Rect.unit (s := S512x4096) ![0, 0] S256x4096.size inb_S512x4096_S256x4096_0_0) qK (xh m ρ (nxt c) 1) (xq m ρ (nxt c) 2) (half_sub m ρ (nxt c) 1 0 2 rfl)) $$ HG3
  iintro HG3
  iapply (load_step' c wM (Rect.unit (s := S4096x2048) ![0, 0] S4096x2048.size inb_S4096x2048_S4096x2048_0_0) fullShare (wC m ρ c) (wC m ρ c) (full_eq (a := 4096) (b := 2048) _ _)) $$ HW
  iintro HW
  iapply (run_ret c)
  iapply Hk
  isplitl [HF1]; · iexact HF1
  isplitl [HO]; · iexact HO
  isplitl [HDn1]; · iexact HDn1
  isplitl [HG3]; · iexact HG3
  iexact HW

theorem part14_spec {Q : (FVec F S256x2048 .f32) → sProp (MT nD τ sig Unit (Elt F) ℕ UU ℕ)} (v363 : BitVec 32) :
    iprop(env m ρ K
      ∗ flight c 0 y0 (outW (prv c) 2) (tile m ρ c (prv c) 2)
      ∗ ow c (rcvs c [])
      ∗ any (c : Thread nD τ) (outW (nxt c) 2)
      ∗ owns (c : Thread nD τ) r1 qK (xh m ρ (nxt c) 1)
      ∗ owns (c : Thread nD τ) wM fullShare (wC m ρ c)
      ∗ flight c 1 y1 (outW (prv c) 3) (tile m ρ c (prv c) 3))
      ⊢ iprop((iprop(flight c 0 y0 (outW (nxt c) 2) (tile m ρ c (nxt c) 2)
        ∗ ow c (rcvs c [])
        ∗ owns (c : Thread nD τ) (outW (prv c) 2) fullShare (tile m ρ c (prv c) 2)
        ∗ owns (c : Thread nD τ) r1 qK (xh m ρ (nxt c) 1)
        ∗ owns (c : Thread nD τ) wM fullShare (wC m ρ c)
        ∗ owns (c : Thread nD τ) (outW (prv c) 3) fullShare (tile m ρ c (prv c) 3)
        ∗ any (c : Thread nD τ) y1
        ∗ semVal (oc c 1) 0) -∗ Q (k0_pay22 (scl m ρ c) (xq m ρ (nxt c) 3) (wC m ρ c)))
        -∗ run c (k0_part14 (F := F) xM (Memref.isWhole_whole _) wM (Memref.isWhole_whole _) aM (Memref.isWhole_whole _) bM (Memref.isWhole_whole _) zM (Memref.isWhole_whole _) lM (Memref.isWhole_whole _) rM (Memref.isWhole_whole _) oM (Memref.isWhole_whole _) yM (Memref.isWhole_whole _) cc0_scratch4 cc0_scratch5 cc0_scratch6 c (scl m ρ c) v363 (k0_pay20 (scl m ρ c) (xq m ρ (nxt c) 2) (wC m ρ c))) Q) := by
  iintro ⟨#He, HF0, HO, HDn2, HG3, HW, HF1⟩ Hk
  rw [k0_part14_eq_skeleton]
  unfold k0_part14_skel
  simp only [semSignalWord, semWaitWord, Prog.lift, Prog.bind_op, Prog.bind_ret, Prog.pure_eq_ret, wp_deviceId]
  iapply (wait_out_step m ρ K c 0 y0 y0 (outW (prv c) 2) (zM.slice (Rect.unit (s := S4096x2048) (k0_off3 c 3#32 512#32 0#32) S256x2048.size (k0_off3_inb c 0)) (fun _ => rfl)) (tile m ρ c (prv c) 2) _ rfl rfl (rcvs c []) (rcvs_lt c _ [] (by decide))) $$ [HF0 HO]
  · isplitr; · iexact He
    isplitl [HF0]; · iexact HF0
    iexact HO
  iintro ⟨⟨HDp2, HY0⟩, HZ0, HO⟩
  iapply (load_any_step c yM _ (fun _ => rfl) squeezes_S1x256x2048_S256x2048) $$ HY0
  iintro %vy HY0
  iapply (store_y0 c _ (tile m ρ c (nxt c) 2) (pay21_eq (scl m ρ c) (xq m ρ (nxt c) 2) (wC m ρ c))) $$ HY0
  iintro HY0
  iapply (copy_step c 0 y0 (outW (nxt c) 2) (zM.slice (Rect.unit (s := S4096x2048) (k0_off3 c 1#32 512#32 0#32) S256x2048.size (k0_off3_inb c 2)) (fun _ => rfl)) (win_eq (nxt c) 2 (w_n2 c)) (tile m ρ c (nxt c) 2) _ rfl rfl) $$ [HY0 HDn2 HZ0]
  · isplitl [HY0]; · iexact HY0
    isplitl [HDn2]; · iexact HDn2
    iexact HZ0
  iintro HF0
  iapply (load_step' c r1 (Rect.unit (s := S512x4096) ![256, 0] S256x4096.size inb_S512x4096_S256x4096_256_0) qK (xh m ρ (nxt c) 1) (xq m ρ (nxt c) 3) (half_sub m ρ (nxt c) 1 1 3 rfl)) $$ HG3
  iintro HG3
  iapply (load_step' c wM (Rect.unit (s := S4096x2048) ![0, 0] S4096x2048.size inb_S4096x2048_S4096x2048_0_0) fullShare (wC m ρ c) (wC m ρ c) (full_eq (a := 4096) (b := 2048) _ _)) $$ HW
  iintro HW
  iapply (wait_out_step m ρ K c 1 y1 y1 (outW (prv c) 3) (zM.slice (Rect.unit (s := S4096x2048) (k0_off3 c 3#32 512#32 256#32) S256x2048.size (k0_off3_inb c 1)) (fun _ => rfl)) (tile m ρ c (prv c) 3) _ rfl rfl (rcvs c []) (rcvs_lt c _ [] (by decide))) $$ [HF1 HO]
  · isplitr; · iexact He
    isplitl [HF1]; · iexact HF1
    iexact HO
  iintro ⟨⟨HDp3, HY1⟩, HZ1, HO⟩
  iapply (load_any_step c yM _ (fun _ => rfl) squeezes_S1x256x2048_S256x2048) $$ HY1
  iintro %vy HY1
  iapply (run_ret c)
  iapply Hk
  isplitl [HF0]; · iexact HF0
  isplitl [HO]; · iexact HO
  isplitl [HDp2]; · iexact HDp2
  isplitl [HG3]; · iexact HG3
  isplitl [HW]; · iexact HW
  isplitl [HDp3]; · iexact HDp3
  isplitl [HY1]; · iexact HY1
  iexact HZ1

theorem part15_spec {Q : (Σ' (v422 : BitVec 32), FVec F S256x2048 .f32) → sProp (MT nD τ sig Unit (Elt F) ℕ UU ℕ)} (v6 v8 v363 : BitVec 32) :
    iprop(env m ρ K
      ∗ any (c : Thread nD τ) y1
      ∗ any (c : Thread nD τ) (outW (nxt c) 3)
      ∗ semVal (oc c 1) 0
      ∗ waiting c (rcv 4)
      ∗ ow c (rcvs c [])
      ∗ owns (c : Thread nD τ) wM fullShare (wC m ρ c))
      ⊢ iprop((∀ (v422 : BitVec 32), iprop(flight c 1 y1 (outW (nxt c) 3) (tile m ρ c (nxt c) 3)
        ∗ semVal (kc c (rcv 4)) 0
        ∗ ow c (rcvs c [])
        ∗ owns (c : Thread nD τ) o0 fullShare (xq m ρ (opp c) 0)
        ∗ owns (c : Thread nD τ) wM fullShare (wC m ρ c)) -∗ Q ⟨v422, k0_pay24 (scl m ρ c) (xq m ρ (opp c) 0) (wC m ρ c)⟩)
        -∗ run c (k0_part15 (F := F) xM (Memref.isWhole_whole _) wM (Memref.isWhole_whole _) aM (Memref.isWhole_whole _) bM (Memref.isWhole_whole _) zM (Memref.isWhole_whole _) lM (Memref.isWhole_whole _) rM (Memref.isWhole_whole _) oM (Memref.isWhole_whole _) yM (Memref.isWhole_whole _) cc0_scratch4 cc0_scratch5 cc0_scratch6 c v6 v8 (scl m ρ c) v363 (k0_pay22 (scl m ρ c) (xq m ρ (nxt c) 3) (wC m ρ c))) Q) := by
  iintro ⟨#He, HY1, HDn3, HZ1, HV4, HO, HW⟩ Hk
  rw [k0_part15_eq_skeleton]
  unfold k0_part15_skel
  simp only [semSignalWord, semWaitWord, Prog.lift, Prog.bind_op, Prog.bind_ret, Prog.pure_eq_ret, wp_deviceId]
  iapply (store_y1 c _ (tile m ρ c (nxt c) 3) (pay23_eq (scl m ρ c) (xq m ρ (nxt c) 3) (wC m ρ c))) $$ HY1
  iintro HY1
  iapply (copy_step c 1 y1 (outW (nxt c) 3) (zM.slice (Rect.unit (s := S4096x2048) (k0_off3 c 1#32 512#32 256#32) S256x2048.size (k0_off3_inb c 3)) (fun _ => rfl)) (win_eq (nxt c) 3 (w_n3 c)) (tile m ρ c (nxt c) 3) _ rfl rfl) $$ [HY1 HDn3 HZ1]
  · isplitl [HY1]; · iexact HY1
    isplitl [HDn3]; · iexact HDn3
    iexact HZ1
  iintro HF1
  iapply (wait_step m ρ K c true 4 l00 o0 _ rfl rfl (rcvs c []) (rcvs_lt c _ [] (by decide))) $$ [HV4 HO]
  · isplitr; · iexact He
    isplitl [HV4]; · iexact HV4
    iexact HO
  iintro ⟨HG4, HV4, HO⟩
  ihave HG4 := (Entails.of_eq (pr4 m ρ c)) $$ HG4
  iapply (load_step' c o0 (Rect.unit (s := S256x4096) ![0, 0] S256x4096.size inb_S256x4096_S256x4096_0_0) fullShare (xq m ρ (opp c) 0) (xq m ρ (opp c) 0) (full_eq (a := 256) (b := 4096) _ _)) $$ HG4
  iintro HG4
  iapply (load_step' c wM (Rect.unit (s := S4096x2048) ![0, 0] S4096x2048.size inb_S4096x2048_S4096x2048_0_0) fullShare (wC m ρ c) (wC m ρ c) (full_eq (a := 4096) (b := 2048) _ _)) $$ HW
  iintro HW
  iapply (run_ret c)
  iapply Hk
  isplitl [HF1]; · iexact HF1
  isplitl [HV4]; · iexact HV4
  isplitl [HO]; · iexact HO
  isplitl [HG4]; · iexact HG4
  iexact HW

end Parts

end Cert.Gather
-- ==== Proof.PartsD.lean ====
/- The parts of the body one by one: the blocks of the opposite device, and the last waits. -/
module

public import proofs.«01_k».proof.Proof.PartsA

@[expose] public section

noncomputable section

namespace Cert.Gather

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

section Parts
variable (K : Dev nD × Cell → ℕ) (c : Dev nD)

theorem part16_spec {Q : (Σ' (v457 : BitVec 32), Vec F S256x4096 .i8) → sProp (MT nD τ sig Unit (Elt F) ℕ UU ℕ)} (v4 v8 v422 : BitVec 32) :
    iprop(env m ρ K
      ∗ flight c 0 y0 (outW (nxt c) 2) (tile m ρ c (nxt c) 2)
      ∗ ow c (rcvs c [])
      ∗ any (c : Thread nD τ) (outW (opp c) 0)
      ∗ waiting c (rcv 6))
      ⊢ iprop((∀ (v457 : BitVec 32), iprop(flight c 0 y0 (outW (opp c) 0) (tile m ρ c (opp c) 0)
        ∗ ow c (rcvs c [])
        ∗ owns (c : Thread nD τ) (outW (nxt c) 2) fullShare (tile m ρ c (nxt c) 2)
        ∗ semVal (kc c (rcv 6)) 0
        ∗ owns (c : Thread nD τ) o2 fullShare (xq m ρ (opp c) 2)) -∗ Q ⟨v457, xq m ρ (opp c) 2⟩)
        -∗ run c (k0_part16 (F := F) xM (Memref.isWhole_whole _) wM (Memref.isWhole_whole _) aM (Memref.isWhole_whole _) bM (Memref.isWhole_whole _) zM (Memref.isWhole_whole _) lM (Memref.isWhole_whole _) rM (Memref.isWhole_whole _) oM (Memref.isWhole_whole _) yM (Memref.isWhole_whole _) cc0_scratch4 cc0_scratch5 cc0_scratch6 c v4 v8 v422 (k0_pay24 (scl m ρ c) (xq m ρ (opp c) 0) (wC m ρ c))) Q) := by
  iintro ⟨#He, HF0, HO, HDo0, HV6⟩ Hk
  rw [k0_part16_eq_skeleton]
  unfold k0_part16_skel
  simp only [semSignalWord, semWaitWord, Prog.lift, Prog.bind_op, Prog.bind_ret, Prog.pure_eq_ret, wp_deviceId]
  iapply (wait_out_step m ρ K c 0 y0 y0 (outW (nxt c) 2) (zM.slice (Rect.unit (s := S4096x2048) (k0_off3 c 1#32 512#32 0#32) S256x2048.size (k0_off3_inb c 2)) (fun _ => rfl)) (tile m ρ c (nxt c) 2) _ rfl rfl (rcvs c []) (rcvs_lt c _ [] (by decide))) $$ [HF0 HO]
  · isplitr; · iexact He
    isplitl [HF0]; · iexact HF0
    iexact HO
  iintro ⟨⟨HDn2, HY0⟩, HZ0, HO⟩
  iapply (load_any_step c yM _ (fun _ => rfl) squeezes_S1x256x2048_S256x2048) $$ HY0
  iintro %vy HY0
  iapply (store_y0 c _ (tile m ρ c (opp c) 0) (pay25_eq (scl m ρ c) (xq m ρ (opp c) 0) (wC m ρ c))) $$ HY0
  iintro HY0
  iapply (copy_step c 0 y0 (outW (opp c) 0) (zM.slice (Rect.unit (s := S4096x2048) (k0_off2 c 2#32 0#32) S256x2048.size (k0_off2_inb c 4)) (fun _ => rfl)) (win_eq (opp c) 0 (w_o0 c)) (tile m ρ c (opp c) 0) _ rfl rfl) $$ [HY0 HDo0 HZ0]
  · isplitl [HY0]; · iexact HY0
    isplitl [HDo0]; · iexact HDo0
    iexact HZ0
  iintro HF0
  iapply (wait_step m ρ K c true 6 r10 o2 _ rfl rfl (rcvs c []) (rcvs_lt c _ [] (by decide))) $$ [HV6 HO]
  · isplitr; · iexact He
    isplitl [HV6]; · iexact HV6
    iexact HO
  iintro ⟨HG6, HV6, HO⟩
  ihave HG6 := (Entails.of_eq (pr6 m ρ c)) $$ HG6
  iapply (load_step' c o2 (Rect.unit (s := S256x4096) ![0, 0] S256x4096.size inb_S256x4096_S256x4096_0_0) fullShare (xq m ρ (opp c) 2) (xq m ρ (opp c) 2) (full_eq (a := 256) (b := 4096) _ _)) $$ HG6
  iintro HG6
  iapply (run_ret c)
  iapply Hk
  isplitl [HF0]; · iexact HF0
  isplitl [HO]; · iexact HO
  isplitl [HDn2]; · iexact HDn2
  isplitl [HV6]; · iexact HV6
  iexact HG6

theorem part17_spec {Q : PUnit → sProp (MT nD τ sig Unit (Elt F) ℕ UU ℕ)} (v6 v457 : BitVec 32) :
    iprop(env m ρ K
      ∗ owns (c : Thread nD τ) wM fullShare (wC m ρ c)
      ∗ flight c 1 y1 (outW (nxt c) 3) (tile m ρ c (nxt c) 3)
      ∗ ow c (rcvs c [])
      ∗ any (c : Thread nD τ) (outW (opp c) 2)
      ∗ waiting c (rcv 5))
      ⊢ iprop((iprop(owns (c : Thread nD τ) wM fullShare (wC m ρ c)
        ∗ flight c 1 y1 (outW (opp c) 2) (tile m ρ c (opp c) 2)
        ∗ ow c (rcvs c [])
        ∗ owns (c : Thread nD τ) (outW (nxt c) 3) fullShare (tile m ρ c (nxt c) 3)
        ∗ semVal (kc c (rcv 5)) 0
        ∗ owns (c : Thread nD τ) o1 fullShare (xq m ρ (opp c) 1)) -∗ Q ⟨⟩)
        -∗ run c (k0_part17 (F := F) xM (Memref.isWhole_whole _) wM (Memref.isWhole_whole _) aM (Memref.isWhole_whole _) bM (Memref.isWhole_whole _) zM (Memref.isWhole_whole _) lM (Memref.isWhole_whole _) rM (Memref.isWhole_whole _) oM (Memref.isWhole_whole _) yM (Memref.isWhole_whole _) cc0_scratch4 cc0_scratch5 cc0_scratch6 c v6 (scl m ρ c) v457 (xq m ρ (opp c) 2)) Q) := by
  iintro ⟨#He, HW, HF1, HO, HDo2, HV5⟩ Hk
  rw [k0_part17_eq_skeleton]
  unfold k0_part17_skel
  simp only [semSignalWord, semWaitWord, Prog.lift, Prog.bind_op, Prog.bind_ret, Prog.pure_eq_ret, wp_deviceId]
  iapply (load_step' c wM (Rect.unit (s := S4096x2048) ![0, 0] S4096x2048.size inb_S4096x2048_S4096x2048_0_0) fullShare (wC m ρ c) (wC m ρ c) (full_eq (a := 4096) (b := 2048) _ _)) $$ HW
  iintro HW
  iapply (wait_out_step m ρ K c 1 y1 y1 (outW (nxt c) 3) (zM.slice (Rect.unit (s := S4096x2048) (k0_off3 c 1#32 512#32 256#32) S256x2048.size (k0_off3_inb c 3)) (fun _ => rfl)) (tile m ρ c (nxt c) 3) _ rfl rfl (rcvs c []) (rcvs_lt c _ [] (by decide))) $$ [HF1 HO]
  · isplitr; · iexact He
    isplitl [HF1]; · iexact HF1
    iexact HO
  iintro ⟨⟨HDn3, HY1⟩, HZ1, HO⟩
  iapply (load_any_step c yM _ (fun _ => rfl) squeezes_S1x256x2048_S256x2048) $$ HY1
  iintro %vy HY1
  iapply (store_y1 c _ (tile m ρ c (opp c) 2) (pay26_eq (scl m ρ c) (xq m ρ (opp c) 2) (wC m ρ c))) $$ HY1
  iintro HY1
  iapply (copy_step c 1 y1 (outW (opp c) 2) (zM.slice (Rect.unit (s := S4096x2048) (k0_off3 c 2#32 512#32 0#32) S256x2048.size (k0_off3_inb c 4)) (fun _ => rfl)) (win_eq (opp c) 2 (w_o2 c)) (tile m ρ c (opp c) 2) _ rfl rfl) $$ [HY1 HDo2 HZ1]
  · isplitl [HY1]; · iexact HY1
    isplitl [HDo2]; · iexact HDo2
    iexact HZ1
  iintro HF1
  iapply (wait_step m ρ K c true 5 l01 o1 _ rfl rfl (rcvs c []) (rcvs_lt c _ [] (by decide))) $$ [HV5 HO]
  · isplitr; · iexact He
    isplitl [HV5]; · iexact HV5
    iexact HO
  iintro ⟨HG5, HV5, HO⟩
  ihave HG5 := (Entails.of_eq (pr5 m ρ c)) $$ HG5
  iapply (run_ret c)
  iapply Hk
  isplitl [HW]; · iexact HW
  isplitl [HF1]; · iexact HF1
  isplitl [HO]; · iexact HO
  isplitl [HDn3]; · iexact HDn3
  isplitl [HV5]; · iexact HV5
  iexact HG5

theorem part18_spec {Q : (BitVec 32) → sProp (MT nD τ sig Unit (Elt F) ℕ UU ℕ)} (v8 : BitVec 32) :
    iprop(env m ρ K
      ∗ owns (c : Thread nD τ) o1 fullShare (xq m ρ (opp c) 1)
      ∗ owns (c : Thread nD τ) wM fullShare (wC m ρ c)
      ∗ flight c 0 y0 (outW (opp c) 0) (tile m ρ c (opp c) 0)
      ∗ ow c (rcvs c [])
      ∗ any (c : Thread nD τ) (outW (opp c) 1))
      ⊢ iprop((iprop(owns (c : Thread nD τ) o1 fullShare (xq m ρ (opp c) 1)
        ∗ owns (c : Thread nD τ) wM fullShare (wC m ρ c)
        ∗ flight c 0 y0 (outW (opp c) 1) (tile m ρ c (opp c) 1)
        ∗ ow c (rcvs c [])
        ∗ owns (c : Thread nD τ) (outW (opp c) 0) fullShare (tile m ρ c (opp c) 0)) -∗ Q 1#32)
        -∗ run c (k0_part18 (F := F) xM (Memref.isWhole_whole _) wM (Memref.isWhole_whole _) aM (Memref.isWhole_whole _) bM (Memref.isWhole_whole _) zM (Memref.isWhole_whole _) lM (Memref.isWhole_whole _) rM (Memref.isWhole_whole _) oM (Memref.isWhole_whole _) yM (Memref.isWhole_whole _) cc0_scratch4 cc0_scratch5 cc0_scratch6 c v8 (scl m ρ c)) Q) := by
  iintro ⟨#He, HG5, HW, HF0, HO, HDo1⟩ Hk
  rw [k0_part18_eq_skeleton]
  unfold k0_part18_skel
  simp only [semSignalWord, semWaitWord, Prog.lift, Prog.bind_op, Prog.bind_ret, Prog.pure_eq_ret, wp_deviceId]
  iapply (load_step' c o1 (Rect.unit (s := S256x4096) ![0, 0] S256x4096.size inb_S256x4096_S256x4096_0_0) fullShare (xq m ρ (opp c) 1) (xq m ρ (opp c) 1) (full_eq (a := 256) (b := 4096) _ _)) $$ HG5
  iintro HG5
  iapply (load_step' c wM (Rect.unit (s := S4096x2048) ![0, 0] S4096x2048.size inb_S4096x2048_S4096x2048_0_0) fullShare (wC m ρ c) (wC m ρ c) (full_eq (a := 4096) (b := 2048) _ _)) $$ HW
  iintro HW
  iapply (wait_out_step m ρ K c 0 y0 y0 (outW (opp c) 0) (zM.slice (Rect.unit (s := S4096x2048) (k0_off2 c 2#32 0#32) S256x2048.size (k0_off2_inb c 4)) (fun _ => rfl)) (tile m ρ c (opp c) 0) _ rfl rfl (rcvs c []) (rcvs_lt c _ [] (by decide))) $$ [HF0 HO]
  · isplitr; · iexact He
    isplitl [HF0]; · iexact HF0
    iexact HO
  iintro ⟨⟨HDo0, HY0⟩, HZ0, HO⟩
  iapply (load_any_step c yM _ (fun _ => rfl) squeezes_S1x256x2048_S256x2048) $$ HY0
  iintro %vy HY0
  iapply (store_y0 c _ (tile m ρ c (opp c) 1) (pay27_eq (scl m ρ c) (xq m ρ (opp c) 1) (wC m ρ c))) $$ HY0
  iintro HY0
  iapply (copy_step c 0 y0 (outW (opp c) 1) (zM.slice (Rect.unit (s := S4096x2048) (k0_off3 c 2#32 256#32 0#32) S256x2048.size (k0_off3_inb c 5)) (fun _ => rfl)) (win_eq (opp c) 1 (w_o1 c)) (tile m ρ c (opp c) 1) _ rfl rfl) $$ [HY0 HDo1 HZ0]
  · isplitl [HY0]; · iexact HY0
    isplitl [HDo1]; · iexact HDo1
    iexact HZ0
  iintro HF0
  iapply (run_ret c)
  iapply Hk
  isplitl [HG5]; · iexact HG5
  isplitl [HW]; · iexact HW
  isplitl [HF0]; · iexact HF0
  isplitl [HO]; · iexact HO
  iexact HDo0

theorem part19_spec {Q : PUnit → sProp (MT nD τ sig Unit (Elt F) ℕ UU ℕ)} (v4 v8 v : BitVec 32) :
    iprop(env m ρ K
      ∗ waiting c (rcv 7)
      ∗ ow c (rcvs c [])
      ∗ owns (c : Thread nD τ) wM fullShare (wC m ρ c)
      ∗ flight c 1 y1 (outW (opp c) 2) (tile m ρ c (opp c) 2))
      ⊢ iprop((iprop(semVal (kc c (rcv 7)) 0
        ∗ ow c (rcvs c [])
        ∗ owns (c : Thread nD τ) o3 fullShare (xq m ρ (opp c) 3)
        ∗ owns (c : Thread nD τ) wM fullShare (wC m ρ c)
        ∗ owns (c : Thread nD τ) (outW (opp c) 2) fullShare (tile m ρ c (opp c) 2)
        ∗ owns (c : Thread nD τ) y1 fullShare (tile m ρ c (opp c) 3)
        ∗ semVal (oc c 1) 0) -∗ Q ⟨⟩)
        -∗ run c (k0_part19 (F := F) xM (Memref.isWhole_whole _) wM (Memref.isWhole_whole _) aM (Memref.isWhole_whole _) bM (Memref.isWhole_whole _) zM (Memref.isWhole_whole _) lM (Memref.isWhole_whole _) rM (Memref.isWhole_whole _) oM (Memref.isWhole_whole _) yM (Memref.isWhole_whole _) cc0_scratch4 cc0_scratch5 cc0_scratch6 c v4 v8 (scl m ρ c) v) Q) := by
  iintro ⟨#He, HV7, HO, HW, HF1⟩ Hk
  rw [k0_part19_eq_skeleton]
  unfold k0_part19_skel
  simp only [semSignalWord, semWaitWord, Prog.lift, Prog.bind_op, Prog.bind_ret, Prog.pure_eq_ret, wp_deviceId]
  iapply (wait_step m ρ K c true 7 r11 o3 _ rfl rfl (rcvs c []) (rcvs_lt c _ [] (by decide))) $$ [HV7 HO]
  · isplitr; · iexact He
    isplitl [HV7]; · iexact HV7
    iexact HO
  iintro ⟨HG7, HV7, HO⟩
  ihave HG7 := (Entails.of_eq (pr7 m ρ c)) $$ HG7
  iapply (load_step' c o3 (Rect.unit (s := S256x4096) ![0, 0] S256x4096.size inb_S256x4096_S256x4096_0_0) fullShare (xq m ρ (opp c) 3) (xq m ρ (opp c) 3) (full_eq (a := 256) (b := 4096) _ _)) $$ HG7
  iintro HG7
  iapply (load_step' c wM (Rect.unit (s := S4096x2048) ![0, 0] S4096x2048.size inb_S4096x2048_S4096x2048_0_0) fullShare (wC m ρ c) (wC m ρ c) (full_eq (a := 4096) (b := 2048) _ _)) $$ HW
  iintro HW
  iapply (wait_out_step m ρ K c 1 y1 y1 (outW (opp c) 2) (zM.slice (Rect.unit (s := S4096x2048) (k0_off3 c 2#32 512#32 0#32) S256x2048.size (k0_off3_inb c 4)) (fun _ => rfl)) (tile m ρ c (opp c) 2) _ rfl rfl (rcvs c []) (rcvs_lt c _ [] (by decide))) $$ [HF1 HO]
  · isplitr; · iexact He
    isplitl [HF1]; · iexact HF1
    iexact HO
  iintro ⟨⟨HDo2, HY1⟩, HZ1, HO⟩
  iapply (load_any_step c yM _ (fun _ => rfl) squeezes_S1x256x2048_S256x2048) $$ HY1
  iintro %vy HY1
  iapply (store_y1 c _ (tile m ρ c (opp c) 3) (pay28_eq (scl m ρ c) (xq m ρ (opp c) 3) (wC m ρ c))) $$ HY1
  iintro HY1
  iapply (run_ret c)
  iapply Hk
  isplitl [HV7]; · iexact HV7
  isplitl [HO]; · iexact HO
  isplitl [HG7]; · iexact HG7
  isplitl [HW]; · iexact HW
  isplitl [HDo2]; · iexact HDo2
  isplitl [HY1]; · iexact HY1
  iexact HZ1

theorem part20_spec {Q : PUnit → sProp (MT nD τ sig Unit (Elt F) ℕ UU ℕ)} :
    iprop(env m ρ K
      ∗ owns (c : Thread nD τ) y1 fullShare (tile m ρ c (opp c) 3)
      ∗ any (c : Thread nD τ) (outW (opp c) 3)
      ∗ semVal (oc c 1) 0
      ∗ waiting c (snd 0)
      ∗ ow c (rcvs c [])
      ∗ waiting c (snd 1)
      ∗ waiting c (snd 2))
      ⊢ iprop((iprop(flight c 1 y1 (outW (opp c) 3) (tile m ρ c (opp c) 3)
        ∗ semVal (kc c (snd 0)) 0
        ∗ ow c (rcvs c [])
        ∗ owns (c : Thread nD τ) x0 qA (xh m ρ c 0)
        ∗ semVal (kc c (snd 1)) 0
        ∗ owns (c : Thread nD τ) x1 qA (xh m ρ c 1)
        ∗ semVal (kc c (snd 2)) 0
        ∗ owns (c : Thread nD τ) x0 qB (xh m ρ c 0)) -∗ Q ⟨⟩)
        -∗ run c (k0_part20 (F := F) xM (Memref.isWhole_whole _) wM (Memref.isWhole_whole _) aM (Memref.isWhole_whole _) bM (Memref.isWhole_whole _) zM (Memref.isWhole_whole _) lM (Memref.isWhole_whole _) rM (Memref.isWhole_whole _) oM (Memref.isWhole_whole _) yM (Memref.isWhole_whole _) cc0_scratch4 cc0_scratch5 cc0_scratch6 c) Q) := by
  iintro ⟨#He, HY1, HDo3, HZ1, HR0, HO, HR1, HR2⟩ Hk
  rw [k0_part20_eq_skeleton]
  unfold k0_part20_skel
  simp only [semSignalWord, semWaitWord, Prog.lift, Prog.bind_op, Prog.bind_ret, Prog.pure_eq_ret, wp_deviceId]
  iapply (copy_step c 1 y1 (outW (opp c) 3) (zM.slice (Rect.unit (s := S4096x2048) (k0_off4 c) S256x2048.size (k0_off4_inb c)) (fun _ => rfl)) (win_eq (opp c) 3 (w_o3 c)) (tile m ρ c (opp c) 3) _ rfl rfl) $$ [HY1 HDo3 HZ1]
  · isplitl [HY1]; · iexact HY1
    isplitl [HDo3]; · iexact HDo3
    iexact HZ1
  iintro HF1
  iapply (wait_step m ρ K c false 0 l0 x0 _ rfl rfl (rcvs c []) (rcvs_lt c _ [] (by decide))) $$ [HR0 HO]
  · isplitr; · iexact He
    isplitl [HR0]; · iexact HR0
    iexact HO
  iintro ⟨HS0, HR0, HO⟩
  ihave HS0 := (Entails.of_eq (ps0 m ρ c)) $$ HS0
  iapply (wait_step m ρ K c false 1 l1 x1 _ rfl rfl (rcvs c []) (rcvs_lt c _ [] (by decide))) $$ [HR1 HO]
  · isplitr; · iexact He
    isplitl [HR1]; · iexact HR1
    iexact HO
  iintro ⟨HS1, HR1, HO⟩
  ihave HS1 := (Entails.of_eq (ps1 m ρ c)) $$ HS1
  iapply (wait_step m ρ K c false 2 r0 x0 _ rfl rfl (rcvs c []) (rcvs_lt c _ [] (by decide))) $$ [HR2 HO]
  · isplitr; · iexact He
    isplitl [HR2]; · iexact HR2
    iexact HO
  iintro ⟨HS2, HR2, HO⟩
  ihave HS2 := (Entails.of_eq (ps2 m ρ c)) $$ HS2
  iapply (run_ret c)
  iapply Hk
  isplitl [HF1]; · iexact HF1
  isplitl [HR0]; · iexact HR0
  isplitl [HO]; · iexact HO
  isplitl [HS0]; · iexact HS0
  isplitl [HR1]; · iexact HR1
  isplitl [HS1]; · iexact HS1
  isplitl [HR2]; · iexact HR2
  iexact HS2

theorem part21_spec {Q : PUnit → sProp (MT nD τ sig Unit (Elt F) ℕ UU ℕ)} :
    iprop(env m ρ K
      ∗ waiting c (snd 3)
      ∗ ow c (rcvs c [])
      ∗ waiting c (snd 4)
      ∗ waiting c (snd 5)
      ∗ waiting c (snd 6))
      ⊢ iprop((iprop(semVal (kc c (snd 3)) 0
        ∗ ow c (rcvs c [])
        ∗ owns (c : Thread nD τ) x1 qB (xh m ρ c 1)
        ∗ semVal (kc c (snd 4)) 0
        ∗ owns (c : Thread nD τ) l00 qL (xq m ρ (prv c) 0)
        ∗ semVal (kc c (snd 5)) 0
        ∗ owns (c : Thread nD τ) l01 qL (xq m ρ (prv c) 1)
        ∗ semVal (kc c (snd 6)) 0
        ∗ owns (c : Thread nD τ) r10 qL (xq m ρ (nxt c) 2)) -∗ Q ⟨⟩)
        -∗ run c (k0_part21 (F := F) xM (Memref.isWhole_whole _) wM (Memref.isWhole_whole _) aM (Memref.isWhole_whole _) bM (Memref.isWhole_whole _) zM (Memref.isWhole_whole _) lM (Memref.isWhole_whole _) rM (Memref.isWhole_whole _) oM (Memref.isWhole_whole _) yM (Memref.isWhole_whole _) cc0_scratch4 cc0_scratch5 cc0_scratch6 ) Q) := by
  iintro ⟨#He, HR3, HO, HR4, HR5, HR6⟩ Hk
  rw [k0_part21_eq_skeleton]
  unfold k0_part21_skel
  simp only [semSignalWord, semWaitWord, Prog.lift, Prog.bind_op, Prog.bind_ret, Prog.pure_eq_ret, wp_deviceId]
  iapply (wait_step m ρ K c false 3 r1 x1 _ rfl rfl (rcvs c []) (rcvs_lt c _ [] (by decide))) $$ [HR3 HO]
  · isplitr; · iexact He
    isplitl [HR3]; · iexact HR3
    iexact HO
  iintro ⟨HS3, HR3, HO⟩
  ihave HS3 := (Entails.of_eq (ps3 m ρ c)) $$ HS3
  iapply (wait_step m ρ K c false 4 o0 l00 _ rfl rfl (rcvs c []) (rcvs_lt c _ [] (by decide))) $$ [HR4 HO]
  · isplitr; · iexact He
    isplitl [HR4]; · iexact HR4
    iexact HO
  iintro ⟨HS4, HR4, HO⟩
  ihave HS4 := (Entails.of_eq (ps4 m ρ c)) $$ HS4
  iapply (wait_step m ρ K c false 5 o1 l01 _ rfl rfl (rcvs c []) (rcvs_lt c _ [] (by decide))) $$ [HR5 HO]
  · isplitr; · iexact He
    isplitl [HR5]; · iexact HR5
    iexact HO
  iintro ⟨HS5, HR5, HO⟩
  ihave HS5 := (Entails.of_eq (ps5 m ρ c)) $$ HS5
  iapply (wait_step m ρ K c false 6 o2 r10 _ rfl rfl (rcvs c []) (rcvs_lt c _ [] (by decide))) $$ [HR6 HO]
  · isplitr; · iexact He
    isplitl [HR6]; · iexact HR6
    iexact HO
  iintro ⟨HS6, HR6, HO⟩
  ihave HS6 := (Entails.of_eq (ps6 m ρ c)) $$ HS6
  iapply (run_ret c)
  iapply Hk
  isplitl [HR3]; · iexact HR3
  isplitl [HO]; · iexact HO
  isplitl [HS3]; · iexact HS3
  isplitl [HR4]; · iexact HR4
  isplitl [HS4]; · iexact HS4
  isplitl [HR5]; · iexact HR5
  isplitl [HS5]; · iexact HS5
  isplitl [HR6]; · iexact HR6
  iexact HS6

end Parts

end Cert.Gather
-- ==== Proof.Body.lean ====
/- The body of one device, its parts one after the other: what it starts from and what it leaves. -/
module

public import proofs.«01_k».proof.Proof.PartsA
public import proofs.«01_k».proof.Proof.PartsB
public import proofs.«01_k».proof.Proof.PartsC
public import proofs.«01_k».proof.Proof.PartsD

@[expose] public section

noncomputable section

namespace Cert.Gather

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- What a device starts from. -/
def before (c : Dev nD) : sProp 𝕄 :=
    iprop(dutyTok ER (kc (prv c) bar) 0 false
      ∗ dutyTok ER (kc (nxt c) bar) 0 true
      ∗ pay m ρ (prv c) bar false
      ∗ pay m ρ (nxt c) bar true
      ∗ (atPos ER (kc c bar) 0 ∅ 0 ∗ cred (tallyAt (kc c bar) () 2))
      ∗ ow c (olist c)
      ∗ owns (c : Thread nD τ) aM fullShare (aC m ρ c)
      ∗ owns (c : Thread nD τ) bM fullShare (bC m ρ c)
      ∗ owns (c : Thread nD τ) xM qK (xC m ρ c)
      ∗ owns (c : Thread nD τ) wM fullShare (wC m ρ c)
      ∗ owns (c : Thread nD τ) x0 qA (xh m ρ c 0)
      ∗ owns (c : Thread nD τ) x1 qA (xh m ρ c 1)
      ∗ owns (c : Thread nD τ) x0 qB (xh m ρ c 0)
      ∗ owns (c : Thread nD τ) x1 qB (xh m ρ c 1)
      ∗ any (c : Thread nD τ) y0
      ∗ any (c : Thread nD τ) y1
      ∗ any (c : Thread nD τ) (outW c 0)
      ∗ any (c : Thread nD τ) (outW c 1)
      ∗ any (c : Thread nD τ) (outW c 2)
      ∗ any (c : Thread nD τ) (outW c 3)
      ∗ any (c : Thread nD τ) (outW (prv c) 0)
      ∗ any (c : Thread nD τ) (outW (prv c) 1)
      ∗ any (c : Thread nD τ) (outW (prv c) 2)
      ∗ any (c : Thread nD τ) (outW (prv c) 3)
      ∗ any (c : Thread nD τ) (outW (nxt c) 0)
      ∗ any (c : Thread nD τ) (outW (nxt c) 1)
      ∗ any (c : Thread nD τ) (outW (nxt c) 2)
      ∗ any (c : Thread nD τ) (outW (nxt c) 3)
      ∗ any (c : Thread nD τ) (outW (opp c) 0)
      ∗ any (c : Thread nD τ) (outW (opp c) 1)
      ∗ any (c : Thread nD τ) (outW (opp c) 2)
      ∗ any (c : Thread nD τ) (outW (opp c) 3)
      ∗ sendRes c 0
      ∗ sendRes c 1
      ∗ sendRes c 2
      ∗ sendRes c 3
      ∗ sendRes c 4
      ∗ sendRes c 5
      ∗ sendRes c 6
      ∗ sendRes c 7
      ∗ waiting c (rcv 0)
      ∗ waiting c (rcv 1)
      ∗ waiting c (rcv 2)
      ∗ waiting c (rcv 3)
      ∗ waiting c (rcv 4)
      ∗ waiting c (rcv 5)
      ∗ waiting c (rcv 6)
      ∗ waiting c (rcv 7)
      ∗ semVal (oc c 0) 0
      ∗ semVal (oc c 1) 0)

/-- What a device leaves. -/
def after (c : Dev nD) : sProp 𝕄 :=
    iprop(ow c (rcvs c [])
      ∗ owns (c : Thread nD τ) aM fullShare (aC m ρ c)
      ∗ owns (c : Thread nD τ) bM fullShare (bC m ρ c)
      ∗ owns (c : Thread nD τ) xM qK (xC m ρ c)
      ∗ owns (c : Thread nD τ) wM fullShare (wC m ρ c)
      ∗ owns (c : Thread nD τ) x0 qA (xh m ρ c 0)
      ∗ owns (c : Thread nD τ) x1 qA (xh m ρ c 1)
      ∗ owns (c : Thread nD τ) x0 qB (xh m ρ c 0)
      ∗ owns (c : Thread nD τ) x1 qB (xh m ρ c 1)
      ∗ owns (c : Thread nD τ) l00 qL (xq m ρ (prv c) 0)
      ∗ owns (c : Thread nD τ) l01 qL (xq m ρ (prv c) 1)
      ∗ owns (c : Thread nD τ) r10 qL (xq m ρ (nxt c) 2)
      ∗ owns (c : Thread nD τ) r11 qL (xq m ρ (nxt c) 3)
      ∗ owns (c : Thread nD τ) l0 qK (xh m ρ (prv c) 0)
      ∗ owns (c : Thread nD τ) l1 fullShare (xh m ρ (prv c) 1)
      ∗ owns (c : Thread nD τ) r0 fullShare (xh m ρ (nxt c) 0)
      ∗ owns (c : Thread nD τ) r1 qK (xh m ρ (nxt c) 1)
      ∗ owns (c : Thread nD τ) o0 fullShare (xq m ρ (opp c) 0)
      ∗ owns (c : Thread nD τ) o1 fullShare (xq m ρ (opp c) 1)
      ∗ owns (c : Thread nD τ) o2 fullShare (xq m ρ (opp c) 2)
      ∗ owns (c : Thread nD τ) o3 fullShare (xq m ρ (opp c) 3)
      ∗ any (c : Thread nD τ) y0
      ∗ any (c : Thread nD τ) y1
      ∗ owns (c : Thread nD τ) (outW c 0) fullShare (tile m ρ c c 0)
      ∗ owns (c : Thread nD τ) (outW c 1) fullShare (tile m ρ c c 1)
      ∗ owns (c : Thread nD τ) (outW c 2) fullShare (tile m ρ c c 2)
      ∗ owns (c : Thread nD τ) (outW c 3) fullShare (tile m ρ c c 3)
      ∗ owns (c : Thread nD τ) (outW (prv c) 0) fullShare (tile m ρ c (prv c) 0)
      ∗ owns (c : Thread nD τ) (outW (prv c) 1) fullShare (tile m ρ c (prv c) 1)
      ∗ owns (c : Thread nD τ) (outW (prv c) 2) fullShare (tile m ρ c (prv c) 2)
      ∗ owns (c : Thread nD τ) (outW (prv c) 3) fullShare (tile m ρ c (prv c) 3)
      ∗ owns (c : Thread nD τ) (outW (nxt c) 0) fullShare (tile m ρ c (nxt c) 0)
      ∗ owns (c : Thread nD τ) (outW (nxt c) 1) fullShare (tile m ρ c (nxt c) 1)
      ∗ owns (c : Thread nD τ) (outW (nxt c) 2) fullShare (tile m ρ c (nxt c) 2)
      ∗ owns (c : Thread nD τ) (outW (nxt c) 3) fullShare (tile m ρ c (nxt c) 3)
      ∗ owns (c : Thread nD τ) (outW (opp c) 0) fullShare (tile m ρ c (opp c) 0)
      ∗ owns (c : Thread nD τ) (outW (opp c) 1) fullShare (tile m ρ c (opp c) 1)
      ∗ owns (c : Thread nD τ) (outW (opp c) 2) fullShare (tile m ρ c (opp c) 2)
      ∗ owns (c : Thread nD τ) (outW (opp c) 3) fullShare (tile m ρ c (opp c) 3)
      ∗ semVal (kc c bar) 0
      ∗ semVal (kc c (snd 0)) 0
      ∗ semVal (kc c (snd 1)) 0
      ∗ semVal (kc c (snd 2)) 0
      ∗ semVal (kc c (snd 3)) 0
      ∗ semVal (kc c (snd 4)) 0
      ∗ semVal (kc c (snd 5)) 0
      ∗ semVal (kc c (snd 6)) 0
      ∗ semVal (kc c (snd 7)) 0
      ∗ semVal (kc c (rcv 0)) 0
      ∗ semVal (kc c (rcv 1)) 0
      ∗ semVal (kc c (rcv 2)) 0
      ∗ semVal (kc c (rcv 3)) 0
      ∗ semVal (kc c (rcv 4)) 0
      ∗ semVal (kc c (rcv 5)) 0
      ∗ semVal (kc c (rcv 6)) 0
      ∗ semVal (kc c (rcv 7)) 0
      ∗ semVal (oc c 0) 0
      ∗ semVal (oc c 1) 0)

theorem body_spec (K : Dev nD × Cell → ℕ) (c : Dev nD) : iprop(env m ρ K ∗ before m ρ c) ⊢ run c (cc0_body (F := F) xM (Memref.isWhole_whole _) wM (Memref.isWhole_whole _) aM (Memref.isWhole_whole _) bM (Memref.isWhole_whole _) zM (Memref.isWhole_whole _) lM (Memref.isWhole_whole _) rM (Memref.isWhole_whole _) oM (Memref.isWhole_whole _) yM (Memref.isWhole_whole _) cc0_scratch4 cc0_scratch5 cc0_scratch6) (fun _ => after m ρ c) := by
  unfold before after
  iintro ⟨#He, HPL, HPR, HBL, HBR, HBW, HO, HA, HB, HX, HW, HS0, HS1, HS2, HS3, HY0, HY1, HDc0, HDc1, HDc2, HDc3, HDp0, HDp1, HDp2, HDp3, HDn0, HDn1, HDn2, HDn3, HDo0, HDo1, HDo2, HDo3, HR0, HR1, HR2, HR3, HR4, HR5, HR6, HR7, HV0, HV1, HV2, HV3, HV4, HV5, HV6, HV7, HZ0, HZ1⟩
  rw [cc0_body_eq_skeleton]
  unfold cc0_body_skel
  iapply (run_bind c)
  iapply (part1_spec m ρ K c) $$ [HPL HBL HO HPR HBR HBW HA HB HR0 HS0]
  · isplitr; · iexact He
    isplitl [HPL]; · iexact HPL
    isplitl [HBL]; · iexact HBL
    isplitl [HO]; · iexact HO
    isplitl [HPR]; · iexact HPR
    isplitl [HBR]; · iexact HBR
    isplitl [HBW]; · iexact HBW
    isplitl [HA]; · iexact HA
    isplitl [HB]; · iexact HB
    isplitl [HR0]; · iexact HR0
    iexact HS0
  iintro %v2 %v4 %v6 %v8 ⟨HO, HBW, HT1, HT2, HT3, HT4, HT5, HT6, HT7, HA, HB, HR0⟩
  dsimp only
  iapply (run_bind c)
  iapply (part2_spec m ρ K c) $$ [HR1 HS1 HT1 HO HR2 HS2 HT2 HR3 HS3 HT3 HX]
  · isplitr; · iexact He
    isplitl [HR1]; · iexact HR1
    isplitl [HS1]; · iexact HS1
    isplitl [HT1]; · iexact HT1
    isplitl [HO]; · iexact HO
    isplitl [HR2]; · iexact HR2
    isplitl [HS2]; · iexact HS2
    isplitl [HT2]; · iexact HT2
    isplitl [HR3]; · iexact HR3
    isplitl [HS3]; · iexact HS3
    isplitl [HT3]; · iexact HT3
    iexact HX
  iintro %v53 ⟨HR1, HO, HR2, HR3, HX⟩
  dsimp only
  iapply (run_bind c)
  iapply (part3_spec m ρ K c) $$ [HW HY0 HDc0 HZ0 HX HY1]
  · isplitr; · iexact He
    isplitl [HW]; · iexact HW
    isplitl [HY0]; · iexact HY0
    isplitl [HDc0]; · iexact HDc0
    isplitl [HZ0]; · iexact HZ0
    isplitl [HX]; · iexact HX
    iexact HY1
  iintro ⟨HW, HF0, HX, HY1⟩
  iapply (run_bind c)
  iapply (part4_spec m ρ K c) $$ [HY1 HDc1 HZ1 HX HW HF0 HO HDc2]
  · isplitr; · iexact He
    isplitl [HY1]; · iexact HY1
    isplitl [HDc1]; · iexact HDc1
    isplitl [HZ1]; · iexact HZ1
    isplitl [HX]; · iexact HX
    isplitl [HW]; · iexact HW
    isplitl [HF0]; · iexact HF0
    isplitl [HO]; · iexact HO
    iexact HDc2
  iintro ⟨HF1, HX, HW, HF0, HO, HDc0⟩
  iapply (run_bind c)
  iapply (part5_spec m ρ K c) $$ [HW HF1 HO HDc3 HV0]
  · isplitr; · iexact He
    isplitl [HW]; · iexact HW
    isplitl [HF1]; · iexact HF1
    isplitl [HO]; · iexact HO
    isplitl [HDc3]; · iexact HDc3
    iexact HV0
  iintro ⟨HW, HF1, HO, HDc1, HV0, HG0⟩
  iapply (run_bind c)
  iapply (part6_spec m ρ K c) $$ [HG0 HR4 HT4 HO HR5 HT5 HW]
  · isplitr; · iexact He
    isplitl [HG0]; · iexact HG0
    isplitl [HR4]; · iexact HR4
    isplitl [HT4]; · iexact HT4
    isplitl [HO]; · iexact HO
    isplitl [HR5]; · iexact HR5
    isplitl [HT5]; · iexact HT5
    iexact HW
  iintro %v167 ⟨HG0, HR4, HO, HR5, HW⟩
  dsimp only
  iapply (run_bind c)
  iapply (part7_spec m ρ K c) $$ [HF0 HO HDp0 HG0 HW]
  · isplitr; · iexact He
    isplitl [HF0]; · iexact HF0
    isplitl [HO]; · iexact HO
    isplitl [HDp0]; · iexact HDp0
    isplitl [HG0]; · iexact HG0
    iexact HW
  iintro ⟨HF0, HO, HDc2, HG0, HW⟩
  iapply (run_bind c)
  iapply (part8_spec m ρ K c) $$ [HF1 HO HDp1 HV2 HW]
  · isplitr; · iexact He
    isplitl [HF1]; · iexact HF1
    isplitl [HO]; · iexact HO
    isplitl [HDp1]; · iexact HDp1
    isplitl [HV2]; · iexact HV2
    iexact HW
  iintro %v225 ⟨HF1, HO, HDc3, HV2, HG2, HW⟩
  dsimp only
  iapply (run_bind c)
  iapply (part9_spec m ρ K c) $$ [HF0 HO HDn0 HG2 HW]
  · isplitr; · iexact He
    isplitl [HF0]; · iexact HF0
    isplitl [HO]; · iexact HO
    isplitl [HDn0]; · iexact HDn0
    isplitl [HG2]; · iexact HG2
    iexact HW
  iintro ⟨HF0, HO, HDp0, HG2, HW⟩
  iapply (run_bind c)
  iapply (part10_spec m ρ K c) $$ [HF1 HO HDn1 HV3]
  · isplitr; · iexact He
    isplitl [HF1]; · iexact HF1
    isplitl [HO]; · iexact HO
    isplitl [HDn1]; · iexact HDn1
    iexact HV3
  iintro ⟨HF1, HO, HDp1, HV3, HG3⟩
  iapply (run_bind c)
  iapply (part11_spec m ρ K c) $$ [HG3 HR6 HT6 HO HR7 HT7 HV1 HW]
  · isplitr; · iexact He
    isplitl [HG3]; · iexact HG3
    isplitl [HR6]; · iexact HR6
    isplitl [HT6]; · iexact HT6
    isplitl [HO]; · iexact HO
    isplitl [HR7]; · iexact HR7
    isplitl [HT7]; · iexact HT7
    isplitl [HV1]; · iexact HV1
    iexact HW
  iintro %v311 ⟨HG3, HR6, HO, HR7, HV1, HG1, HW⟩
  dsimp only
  iapply (run_bind c)
  iapply (part12_spec m ρ K c) $$ [HF0 HO HDp2 HG1 HW]
  · isplitr; · iexact He
    isplitl [HF0]; · iexact HF0
    isplitl [HO]; · iexact HO
    isplitl [HDp2]; · iexact HDp2
    isplitl [HG1]; · iexact HG1
    iexact HW
  iintro ⟨HF0, HO, HDn0, HG1, HW⟩
  iapply (run_bind c)
  iapply (part13_spec m ρ K c) $$ [HF1 HO HDp3 HG3 HW]
  · isplitr; · iexact He
    isplitl [HF1]; · iexact HF1
    isplitl [HO]; · iexact HO
    isplitl [HDp3]; · iexact HDp3
    isplitl [HG3]; · iexact HG3
    iexact HW
  iintro %v363 ⟨HF1, HO, HDn1, HG3, HW⟩
  dsimp only
  iapply (run_bind c)
  iapply (part14_spec m ρ K c) $$ [HF0 HO HDn2 HG3 HW HF1]
  · isplitr; · iexact He
    isplitl [HF0]; · iexact HF0
    isplitl [HO]; · iexact HO
    isplitl [HDn2]; · iexact HDn2
    isplitl [HG3]; · iexact HG3
    isplitl [HW]; · iexact HW
    iexact HF1
  iintro ⟨HF0, HO, HDp2, HG3, HW, HDp3, HY1, HZ1⟩
  iapply (run_bind c)
  iapply (part15_spec m ρ K c) $$ [HY1 HDn3 HZ1 HV4 HO HW]
  · isplitr; · iexact He
    isplitl [HY1]; · iexact HY1
    isplitl [HDn3]; · iexact HDn3
    isplitl [HZ1]; · iexact HZ1
    isplitl [HV4]; · iexact HV4
    isplitl [HO]; · iexact HO
    iexact HW
  iintro %v422 ⟨HF1, HV4, HO, HG4, HW⟩
  dsimp only
  iapply (run_bind c)
  iapply (part16_spec m ρ K c) $$ [HF0 HO HDo0 HV6]
  · isplitr; · iexact He
    isplitl [HF0]; · iexact HF0
    isplitl [HO]; · iexact HO
    isplitl [HDo0]; · iexact HDo0
    iexact HV6
  iintro %v457 ⟨HF0, HO, HDn2, HV6, HG6⟩
  dsimp only
  iapply (run_bind c)
  iapply (part17_spec m ρ K c) $$ [HW HF1 HO HDo2 HV5]
  · isplitr; · iexact He
    isplitl [HW]; · iexact HW
    isplitl [HF1]; · iexact HF1
    isplitl [HO]; · iexact HO
    isplitl [HDo2]; · iexact HDo2
    iexact HV5
  iintro ⟨HW, HF1, HO, HDn3, HV5, HG5⟩
  iapply (run_bind c)
  iapply (part18_spec m ρ K c) $$ [HG5 HW HF0 HO HDo1]
  · isplitr; · iexact He
    isplitl [HG5]; · iexact HG5
    isplitl [HW]; · iexact HW
    isplitl [HF0]; · iexact HF0
    isplitl [HO]; · iexact HO
    iexact HDo1
  iintro ⟨HG5, HW, HF0, HO, HDo0⟩
  iapply (run_bind c)
  iapply (part19_spec m ρ K c) $$ [HV7 HO HW HF1]
  · isplitr; · iexact He
    isplitl [HV7]; · iexact HV7
    isplitl [HO]; · iexact HO
    isplitl [HW]; · iexact HW
    iexact HF1
  iintro ⟨HV7, HO, HG7, HW, HDo2, HY1, HZ1⟩
  iapply (run_bind c)
  iapply (part20_spec m ρ K c) $$ [HY1 HDo3 HZ1 HR0 HO HR1 HR2]
  · isplitr; · iexact He
    isplitl [HY1]; · iexact HY1
    isplitl [HDo3]; · iexact HDo3
    isplitl [HZ1]; · iexact HZ1
    isplitl [HR0]; · iexact HR0
    isplitl [HO]; · iexact HO
    isplitl [HR1]; · iexact HR1
    iexact HR2
  iintro ⟨HF1, HR0, HO, HS0, HR1, HS1, HR2, HS2⟩
  iapply (run_bind c)
  iapply (part21_spec m ρ K c) $$ [HR3 HO HR4 HR5 HR6]
  · isplitr; · iexact He
    isplitl [HR3]; · iexact HR3
    isplitl [HO]; · iexact HO
    isplitl [HR4]; · iexact HR4
    isplitl [HR5]; · iexact HR5
    iexact HR6
  iintro ⟨HR3, HO, HS3, HR4, HS4, HR5, HS5, HR6, HS6⟩
  simp only [Prog.lift, Prog.bind_op, Prog.bind_ret, Prog.pure_eq_ret]
  iapply (wait_step m ρ K c false 7 o3 r11 _ rfl rfl (rcvs c []) (rcvs_lt c _ [] (by decide))) $$ [HR7 HO]
  · isplitr; · iexact He
    isplitl [HR7]; · iexact HR7
    iexact HO
  iintro ⟨HS7, HR7, HO⟩
  ihave HS7 := (Entails.of_eq (ps7 m ρ c)) $$ HS7
  iapply (wait_out_step m ρ K c 0 y0 y0 (outW (opp c) 1) (zM.slice (Rect.unit (s := S4096x2048) (k0_off3 c 2#32 256#32 0#32) S256x2048.size (k0_off3_inb c 5)) (fun _ => rfl)) (tile m ρ c (opp c) 1) _ rfl rfl (rcvs c []) (rcvs_lt c _ [] (by decide))) $$ [HF0 HO]
  · isplitr; · iexact He
    isplitl [HF0]; · iexact HF0
    iexact HO
  iintro ⟨⟨HDo1, HY0⟩, HZ0, HO⟩
  iapply (wait_out_step m ρ K c 1 y1 y1 (outW (opp c) 3) (zM.slice (Rect.unit (s := S4096x2048) (k0_off4 c) S256x2048.size (k0_off4_inb c)) (fun _ => rfl)) (tile m ρ c (opp c) 3) _ rfl rfl (rcvs c []) (rcvs_lt c _ [] (by decide))) $$ [HF1 HO]
  · isplitr; · iexact He
    isplitl [HF1]; · iexact HF1
    iexact HO
  iintro ⟨⟨HDo3, HY1⟩, HZ1, HO⟩
  iapply (run_ret c)
  isplitl [HO]; · iexact HO
  isplitl [HA]; · iexact HA
  isplitl [HB]; · iexact HB
  isplitl [HX]; · iexact HX
  isplitl [HW]; · iexact HW
  isplitl [HS0]; · iexact HS0
  isplitl [HS1]; · iexact HS1
  isplitl [HS2]; · iexact HS2
  isplitl [HS3]; · iexact HS3
  isplitl [HS4]; · iexact HS4
  isplitl [HS5]; · iexact HS5
  isplitl [HS6]; · iexact HS6
  isplitl [HS7]; · iexact HS7
  isplitl [HG0]; · iexact HG0
  isplitl [HG1]; · iexact HG1
  isplitl [HG2]; · iexact HG2
  isplitl [HG3]; · iexact HG3
  isplitl [HG4]; · iexact HG4
  isplitl [HG5]; · iexact HG5
  isplitl [HG6]; · iexact HG6
  isplitl [HG7]; · iexact HG7
  isplitl [HY0]; · iexact HY0
  isplitl [HY1]; · iexact HY1
  isplitl [HDc0]; · iexact HDc0
  isplitl [HDc1]; · iexact HDc1
  isplitl [HDc2]; · iexact HDc2
  isplitl [HDc3]; · iexact HDc3
  isplitl [HDp0]; · iexact HDp0
  isplitl [HDp1]; · iexact HDp1
  isplitl [HDp2]; · iexact HDp2
  isplitl [HDp3]; · iexact HDp3
  isplitl [HDn0]; · iexact HDn0
  isplitl [HDn1]; · iexact HDn1
  isplitl [HDn2]; · iexact HDn2
  isplitl [HDn3]; · iexact HDn3
  isplitl [HDo0]; · iexact HDo0
  isplitl [HDo1]; · iexact HDo1
  isplitl [HDo2]; · iexact HDo2
  isplitl [HDo3]; · iexact HDo3
  isplitl [HBW]; · iexact HBW
  isplitl [HR0]; · iexact HR0
  isplitl [HR1]; · iexact HR1
  isplitl [HR2]; · iexact HR2
  isplitl [HR3]; · iexact HR3
  isplitl [HR4]; · iexact HR4
  isplitl [HR5]; · iexact HR5
  isplitl [HR6]; · iexact HR6
  isplitl [HR7]; · iexact HR7
  isplitl [HV0]; · iexact HV0
  isplitl [HV1]; · iexact HV1
  isplitl [HV2]; · iexact HV2
  isplitl [HV3]; · iexact HV3
  isplitl [HV4]; · iexact HV4
  isplitl [HV5]; · iexact HV5
  isplitl [HV6]; · iexact HV6
  isplitl [HV7]; · iexact HV7
  isplitl [HZ0]; · iexact HZ0
  iexact HZ1

end Cert.Gather
-- ==== Proof.Oblig.lean ====
/- The body's proof data: what a device holds before and after its one point, and the obligation there. -/
module

public import proofs.«01_k».proof.Proof.Body

@[expose] public section

noncomputable section

namespace Cert.Gather

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Enumerations -/

section
omit [FloatOps F]
theorem eight {M : Type} [URA M] (Φ : Fin 8 → sProp M) : bigSep Finset.univ Φ = iprop(Φ 0 ∗ Φ 1 ∗ Φ 2 ∗ Φ 3 ∗ Φ 4 ∗ Φ 5 ∗ Φ 6 ∗ Φ 7) :=
  (bigSep_univ_eq_bigSepL [0, 1, 2, 3, 4, 5, 6, 7] (by decide) (by decide) Φ).trans (by simp only [bigSepL_cons_cons, bigSepL_singleton]; rfl)

theorem cells {M : Type} [URA M] (Φ : Cell → sProp M) : bigSep Finset.univ Φ
    = iprop(Φ bar ∗ (Φ (snd 0) ∗ Φ (snd 1) ∗ Φ (snd 2) ∗ Φ (snd 3) ∗ Φ (snd 4) ∗ Φ (snd 5) ∗ Φ (snd 6) ∗ Φ (snd 7))
      ∗ (Φ (rcv 0) ∗ Φ (rcv 1) ∗ Φ (rcv 2) ∗ Φ (rcv 3) ∗ Φ (rcv 4) ∗ Φ (rcv 5) ∗ Φ (rcv 6) ∗ Φ (rcv 7))) := by

  rw [bigSep_univ_equiv (Equiv.optionEquivSumPUnit.{0, 0} (Bool × Fin 8)).symm Φ, bigSep_univ_sum, bigSep_univ_prod, bigSep_univ_of_subsingleton PUnit.unit.{1},
    bigSep_univ_eq_bigSepL [false, true] (by decide) (by decide), bigSepL_cons_cons, bigSepL_singleton, eight, eight]
  exact Entails.antisymm BI.sep_comm BI.sep_comm
end

/-! ## What a device holds -/

/-- The counters of a device's cells and of its two local copies, all at zero. -/
def zeros (c : Dev nD) : sProp 𝕄 :=
  iprop((bigSep Finset.univ fun k : Cell => semVal (kc c k) 0) ∗ semVal (oc c 0) 0 ∗ semVal (oc c 1) 0)

/-- The tokens of the duties a device pays. -/
def payToks (c : Dev nD) : sProp 𝕄 :=
  iprop(dutyTok ER (kc (prv c) bar) 0 false ∗ dutyTok ER (kc (nxt c) bar) 0 true
    ∗ (bigSep Finset.univ fun i : Fin 8 => dutyTok ER (kc c (snd i)) 0 false)
    ∗ (bigSep Finset.univ fun i : Fin 8 => dutyTok ER (kc (dest c i) (rcv i)) 0 false))

/-- A device's positions, its tokens, the counters of its local copies. -/
def linear (c : Dev nD) : sProp 𝕄 :=
  iprop((bigSep Finset.univ fun k : Cell => atPos ER (kc c k) 0 ∅ 0) ∗ payToks c ∗ semVal (oc c 0) 0 ∗ semVal (oc c 1) 0)

/-- The credits of what the others owe a device. -/
def credits (c : Dev nD) : sProp 𝕄 :=
  iprop(cred (tallyAt (kc c bar) () 2) ∗ bigSep Finset.univ fun i : Fin 8 => cred (tallyAt (kc c (rcv i)) () (amt (rcv i))))

/-- The four scratch buffers at some contents. -/
def scratch (c : Dev nD) : sProp 𝕄 :=
  iprop(any (c : Thread nD τ) lM ∗ any (c : Thread nD τ) rM ∗ any (c : Thread nD τ) oM ∗ any (c : Thread nD τ) yM)

def start (c : Dev nD) : sProp 𝕄 :=
  iprop((∃ K, env m ρ K) ∗ linear c ∗ credits c ∗ any (c : Thread nD τ) zM)

def Φ₀ (c : Dev nD) : sProp 𝕄 := iprop(start m ρ c ∗ scratch c)
def Φ₁ (c : Dev nD) : sProp 𝕄 := iprop(zeros c ∗ owns (c : Thread nD τ) zM fullShare (outC m ρ c) ∗ scratch c)

def dats (_ : Fin 1) (c : Dev nD) : Dat τ (Elt F) Unit ℕ UU ℕ cfg0 c where
  A w := (st₀ m ρ).mem ((cfg0.win w).arr.view.loc (c : Thread nD τ))
  after w _ := match w with
    | ⟨0, _⟩ => xC m ρ c
    | ⟨1, _⟩ => wC m ρ c
    | ⟨2, _⟩ => aC m ρ c
    | ⟨3, _⟩ => bC m ρ c
  Φ t := match t with
    | ⟨0, _⟩ => Φ₀ m ρ c
    | ⟨_ + 1, _⟩ => Φ₁ m ρ c
  q _ := fullShare
  owed t := match t with
    | ⟨0, _⟩ => O₀ c
    | ⟨_ + 1, _⟩ => 0

/-- The four inputs staged whole. -/
def staged (c : Dev nD) : sProp 𝕄 :=
  iprop(owns (c : Thread nD τ) xM fullShare (xC m ρ c) ∗ owns (c : Thread nD τ) wM fullShare (wC m ρ c)
    ∗ owns (c : Thread nD τ) aM fullShare (aC m ρ c) ∗ owns (c : Thread nD τ) bM fullShare (bC m ρ c))

theorem pay_left (c : Dev nD) : iprop(any (c : Thread nD τ) l0 ∗ any (c : Thread nD τ) l1 ∗ any (c : Thread nD τ) o0 ∗ any (c : Thread nD τ) o1) ⊢ pay m ρ (prv c) bar false :=
  Entails.of_eq (by unfold pay; rw [nxt_prv])
theorem pay_right (c : Dev nD) : iprop(any (c : Thread nD τ) r0 ∗ any (c : Thread nD τ) r1 ∗ any (c : Thread nD τ) o2 ∗ any (c : Thread nD τ) o3) ⊢ pay m ρ (nxt c) bar true :=
  Entails.of_eq (by unfold pay; rw [prv_nxt])

set_option maxRecDepth 4000 in
theorem before_intro (c : Dev nD) :
    iprop(linear c ∗ credits c ∗ any (c : Thread nD τ) zM ∗ scratch c ∗ ow c (olist c) ∗ staged m ρ c) ⊢ before m ρ c := by
  unfold linear payToks credits scratch staged
  rw [cells, eight, eight, eight]

  iintro ⟨⟨⟨HAb, ⟨HAt0, HAt1, HAt2, HAt3, HAt4, HAt5, HAt6, HAt7⟩, ⟨HAv0, HAv1, HAv2, HAv3, HAv4, HAv5, HAv6, HAv7⟩⟩, ⟨HPL, HPR, ⟨HTs0, HTs1, HTs2, HTs3, HTs4, HTs5, HTs6, HTs7⟩, HTr0, HTr1, HTr2, HTr3, HTr4, HTr5, HTr6, HTr7⟩, HZ0, HZ1⟩, ⟨HCb, HCr0, HCr1, HCr2, HCr3, HCr4, HCr5, HCr6, HCr7⟩, HZ, ⟨HL, HR, HO2, HY⟩, HO, HX, HW, HA, HB⟩
  ihave HL := (l_split c) $$ HL
  icases HL with ⟨HL0, HL1⟩
  ihave HR := (r_split c) $$ HR
  icases HR with ⟨HR0, HR1⟩
  ihave HO2 := (o_split c) $$ HO2
  icases HO2 with ⟨HO0, HO1, HO2, HO3⟩
  ihave HY := (y_split c) $$ HY
  icases HY with ⟨HY0, HY1⟩
  ihave HX := (x_split m ρ c) $$ HX
  icases HX with ⟨HX, ⟨HS0, HS1⟩, HS2, HS3⟩
  ihave HZ := ((z_split c).trans (Entails.of_eq (windows c _))) $$ HZ
  icases HZ with ⟨⟨HDc0, HDc1, HDc2, HDc3⟩, ⟨HDp0, HDp1, HDp2, HDp3⟩, ⟨HDn0, HDn1, HDn2, HDn3⟩, HDo0, HDo1, HDo2, HDo3⟩
  ihave HBL := (pay_left m ρ c) $$ [HL0 HL1 HO0 HO1]
  · isplitl [HL0]; · iexact HL0
    isplitl [HL1]; · iexact HL1
    isplitl [HO0]; · iexact HO0
    iexact HO1
  ihave HBR := (pay_right m ρ c) $$ [HR0 HR1 HO2 HO3]
  · isplitl [HR0]; · iexact HR0
    isplitl [HR1]; · iexact HR1
    isplitl [HO2]; · iexact HO2
    iexact HO3
  unfold before sendRes waiting

  isplitl [HPL]; · iexact HPL
  isplitl [HPR]; · iexact HPR
  isplitl [HBL]; · iexact HBL
  isplitl [HBR]; · iexact HBR
  isplitl [HAb HCb]
  · isplitl [HAb]; · iexact HAb
    iexact HCb
  isplitl [HO]; · iexact HO
  isplitl [HA]; · iexact HA
  isplitl [HB]; · iexact HB
  isplitl [HX]; · iexact HX
  isplitl [HW]; · iexact HW
  isplitl [HS0]; · iexact HS0
  isplitl [HS1]; · iexact HS1
  isplitl [HS2]; · iexact HS2
  isplitl [HS3]; · iexact HS3
  isplitl [HY0]; · iexact HY0
  isplitl [HY1]; · iexact HY1
  isplitl [HDc0]; · iexact HDc0
  isplitl [HDc1]; · iexact HDc1
  isplitl [HDc2]; · iexact HDc2
  isplitl [HDc3]; · iexact HDc3
  isplitl [HDp0]; · iexact HDp0
  isplitl [HDp1]; · iexact HDp1
  isplitl [HDp2]; · iexact HDp2
  isplitl [HDp3]; · iexact HDp3
  isplitl [HDn0]; · iexact HDn0
  isplitl [HDn1]; · iexact HDn1
  isplitl [HDn2]; · iexact HDn2
  isplitl [HDn3]; · iexact HDn3
  isplitl [HDo0]; · iexact HDo0
  isplitl [HDo1]; · iexact HDo1
  isplitl [HDo2]; · iexact HDo2
  isplitl [HDo3]; · iexact HDo3
  isplitl [HTs0 HTr0 HAt0]
  · isplitl [HTs0]; · iexact HTs0
    isplitl [HTr0]; · iexact HTr0
    iexact HAt0
  isplitl [HTs1 HTr1 HAt1]
  · isplitl [HTs1]; · iexact HTs1
    isplitl [HTr1]; · iexact HTr1
    iexact HAt1
  isplitl [HTs2 HTr2 HAt2]
  · isplitl [HTs2]; · iexact HTs2
    isplitl [HTr2]; · iexact HTr2
    iexact HAt2
  isplitl [HTs3 HTr3 HAt3]
  · isplitl [HTs3]; · iexact HTs3
    isplitl [HTr3]; · iexact HTr3
    iexact HAt3
  isplitl [HTs4 HTr4 HAt4]
  · isplitl [HTs4]; · iexact HTs4
    isplitl [HTr4]; · iexact HTr4
    iexact HAt4
  isplitl [HTs5 HTr5 HAt5]
  · isplitl [HTs5]; · iexact HTs5
    isplitl [HTr5]; · iexact HTr5
    iexact HAt5
  isplitl [HTs6 HTr6 HAt6]
  · isplitl [HTs6]; · iexact HTs6
    isplitl [HTr6]; · iexact HTr6
    iexact HAt6
  isplitl [HTs7 HTr7 HAt7]
  · isplitl [HTs7]; · iexact HTs7
    isplitl [HTr7]; · iexact HTr7
    iexact HAt7
  isplitl [HAv0 HCr0]
  · isplitl [HAv0]; · iexact HAv0
    iexact HCr0
  isplitl [HAv1 HCr1]
  · isplitl [HAv1]; · iexact HAv1
    iexact HCr1
  isplitl [HAv2 HCr2]
  · isplitl [HAv2]; · iexact HAv2
    iexact HCr2
  isplitl [HAv3 HCr3]
  · isplitl [HAv3]; · iexact HAv3
    iexact HCr3
  isplitl [HAv4 HCr4]
  · isplitl [HAv4]; · iexact HAv4
    iexact HCr4
  isplitl [HAv5 HCr5]
  · isplitl [HAv5]; · iexact HAv5
    iexact HCr5
  isplitl [HAv6 HCr6]
  · isplitl [HAv6]; · iexact HAv6
    iexact HCr6
  isplitl [HAv7 HCr7]
  · isplitl [HAv7]; · iexact HAv7
    iexact HCr7
  isplitl [HZ0]; · iexact HZ0
  iexact HZ1

set_option maxRecDepth 4000 in
theorem after_elim (c : Dev nD) : after m ρ c ⊢ iprop(ow c [] ∗ staged m ρ c ∗ Φ₁ m ρ c) := by
  unfold after staged Φ₁ scratch zeros
  rw [cells]

  iintro ⟨HO, HA, HB, HX, HW, HS0, HS1, HS2, HS3, HS4, HS5, HS6, HS7, HG0, HG1, HG2, HG3, HG4, HG5, HG6, HG7, HY0, HY1, HDc0, HDc1, HDc2, HDc3, HDp0, HDp1, HDp2, HDp3, HDn0, HDn1, HDn2, HDn3, HDo0, HDo1, HDo2, HDo3, HBW, HR0, HR1, HR2, HR3, HR4, HR5, HR6, HR7, HV0, HV1, HV2, HV3, HV4, HV5, HV6, HV7, HZ0, HZ1⟩

  ihave HX := (x_join m ρ c) $$ [HX HS0 HS1 HS2 HS3]
  · isplitl [HX]; · iexact HX
    isplitl [HS0 HS1]
    · isplitl [HS0]; · iexact HS0
      iexact HS1
    isplitl [HS2]; · iexact HS2
    iexact HS3
  ihave HL0 := (l0_join m ρ c (prv c)) $$ [HG0 HS4 HS5]
  · isplitl [HG0]; · iexact HG0
    isplitl [HS4]; · iexact HS4
    iexact HS5
  ihave HR1' := (r1_join m ρ c (nxt c)) $$ [HG3 HS6 HS7]
  · isplitl [HG3]; · iexact HG3
    isplitl [HS6]; · iexact HS6
    iexact HS7
  ihave HL1 := (any_of_owns (c : Thread nD τ) l1 _) $$ HG1
  ihave HR0' := (any_of_owns (c : Thread nD τ) r0 _) $$ HG2
  ihave HO0 := (any_of_owns (c : Thread nD τ) o0 _) $$ HG4
  ihave HO1 := (any_of_owns (c : Thread nD τ) o1 _) $$ HG5
  ihave HO2 := (any_of_owns (c : Thread nD τ) o2 _) $$ HG6
  ihave HO3 := (any_of_owns (c : Thread nD τ) o3 _) $$ HG7
  ihave HZ := ((Entails.of_eq (windows c fun t : Dev nD × Fin 4 => owns (c : Thread nD τ) (outW t.1 t.2) fullShare (tile m ρ c t.1 t.2)).symm).trans (z_join m ρ c)) $$ [HDc0 HDc1 HDc2 HDc3 HDp0 HDp1 HDp2 HDp3 HDn0 HDn1 HDn2 HDn3 HDo0 HDo1 HDo2 HDo3]

  · isplitl [HDc0 HDc1 HDc2 HDc3]
    · isplitl [HDc0]; · iexact HDc0
      isplitl [HDc1]; · iexact HDc1
      isplitl [HDc2]; · iexact HDc2
      iexact HDc3
    isplitl [HDp0 HDp1 HDp2 HDp3]
    · isplitl [HDp0]; · iexact HDp0
      isplitl [HDp1]; · iexact HDp1
      isplitl [HDp2]; · iexact HDp2
      iexact HDp3
    isplitl [HDn0 HDn1 HDn2 HDn3]
    · isplitl [HDn0]; · iexact HDn0
      isplitl [HDn1]; · iexact HDn1
      isplitl [HDn2]; · iexact HDn2
      iexact HDn3
    isplitl [HDo0]; · iexact HDo0
    isplitl [HDo1]; · iexact HDo1
    isplitl [HDo2]; · iexact HDo2
    iexact HDo3

  isplitl [HO]; · iexact HO
  isplitl [HX HW HA HB]
  · isplitl [HX]; · iexact HX
    isplitl [HW]; · iexact HW
    isplitl [HA]; · iexact HA
    iexact HB

  isplitl [HBW HR0 HR1 HR2 HR3 HR4 HR5 HR6 HR7 HV0 HV1 HV2 HV3 HV4 HV5 HV6 HV7 HZ0 HZ1]
  · isplitl [HBW HR0 HR1 HR2 HR3 HR4 HR5 HR6 HR7 HV0 HV1 HV2 HV3 HV4 HV5 HV6 HV7]
    · isplitl [HBW]; · iexact HBW
      isplitl [HR0 HR1 HR2 HR3 HR4 HR5 HR6 HR7]
      · isplitl [HR0]; · iexact HR0
        isplitl [HR1]; · iexact HR1
        isplitl [HR2]; · iexact HR2
        isplitl [HR3]; · iexact HR3
        isplitl [HR4]; · iexact HR4
        isplitl [HR5]; · iexact HR5
        isplitl [HR6]; · iexact HR6
        iexact HR7
      isplitl [HV0]; · iexact HV0
      isplitl [HV1]; · iexact HV1
      isplitl [HV2]; · iexact HV2
      isplitl [HV3]; · iexact HV3
      isplitl [HV4]; · iexact HV4
      isplitl [HV5]; · iexact HV5
      isplitl [HV6]; · iexact HV6
      iexact HV7
    isplitl [HZ0]; · iexact HZ0
    iexact HZ1

  isplitl [HZ]; · iexact HZ
  isplitl [HL0 HL1]
  · iapply (l_join c)
    isplitl [HL0]; · iexact HL0
    iexact HL1
  isplitl [HR0' HR1']
  · iapply (r_join c)
    isplitl [HR0']; · iexact HR0'
    iexact HR1'
  isplitl [HO0 HO1 HO2 HO3]
  · iapply (o_join c)
    isplitl [HO0]; · iexact HO0
    isplitl [HO1]; · iexact HO1
    isplitl [HO2]; · iexact HO2
    iexact HO3
  iapply (y_join c)
  isplitl [HY0]; · iexact HY0
  iexact HY1

/-! ## The obligation -/

theorem wp_conseq (c : Dev nD) (p : Prog (TpuEff nD τ sig (Elt F) Λ₀ .tc) PUnit) (P Q R : sProp (MT nD τ sig Unit (Elt F) ℕ UU ℕ))
    (h : P ⊢ run c p fun _ => Q) (hQ : Q ⊢ R) : P ⊢ run c p fun _ => R :=
  h.trans (wp_mono _ _ _ fun _ => hQ)

/-- The windows at the point: what the pipeline staged. -/
def found (c : Dev nD) : sProp 𝕄 :=
  iprop((∃ d, owns (c : Thread nD τ) xM fullShare ((dats m ρ 0 c).before (0 : Fin 4) t0_0 d))
    ∗ (∃ d, owns (c : Thread nD τ) wM fullShare ((dats m ρ 0 c).before (1 : Fin 4) t0_0 d))
    ∗ (∃ d, owns (c : Thread nD τ) aM fullShare ((dats m ρ 0 c).before (2 : Fin 4) t0_0 d))
    ∗ (∃ d, owns (c : Thread nD τ) bM fullShare ((dats m ρ 0 c).before (3 : Fin 4) t0_0 d)))

theorem fetched (w : Fin 4) : (cfg0.win w).fetch t0_0 = true := by fin_cases w <;> rfl

theorem found_staged (c : Dev nD) : found m ρ c ⊢ staged m ρ c := by
  have e0 (d) : (dats m ρ 0 c).before (0 : Fin 4) t0_0 d = xC m ρ c := by unfold Dat.before; rw [if_pos (fetched 0)]; rfl
  have e1 (d) : (dats m ρ 0 c).before (1 : Fin 4) t0_0 d = wC m ρ c := by unfold Dat.before; rw [if_pos (fetched 1)]; rfl
  have e2 (d) : (dats m ρ 0 c).before (2 : Fin 4) t0_0 d = aC m ρ c := by unfold Dat.before; rw [if_pos (fetched 2)]; rfl
  have e3 (d) : (dats m ρ 0 c).before (3 : Fin 4) t0_0 d = bC m ρ c := by unfold Dat.before; rw [if_pos (fetched 3)]; rfl
  unfold found staged
  iintro ⟨⟨%d0, H0⟩, ⟨%d1, H1⟩, ⟨%d2, H2⟩, ⟨%d3, H3⟩⟩
  rw [e0, e1, e2, e3]
  isplitl [H0]; · iexact H0
  isplitl [H1]; · iexact H1
  isplitl [H2]; · iexact H2
  iexact H3

def bodyPre (c : Dev nD) : sProp 𝕄 := iprop(Φ₀ m ρ c ∗ (dats m ρ 0 c).owesAt () t0_0.castSucc ∗ found m ρ c)
def bodyPost (c : Dev nD) : sProp 𝕄 := iprop(Φ₁ m ρ c ∗ (dats m ρ 0 c).owesAt () t0_0.succ ∗ staged m ρ c)

theorem after_post (c : Dev nD) : after m ρ c ⊢ bodyPost m ρ c := by
  refine (after_elim m ρ c).trans ?_
  unfold bodyPost ow Dat.owesAt Pipeline.owesWithin
  iintro ⟨⟨%W, HO⟩, HS, HP⟩
  isplitl [HP]; · iexact HP
  isplitl [HO]
  · iexists W
    isplitr; · ipureintro; exact fun _ _ => Or.inl trivial
    iexact HO
  iexact HS

theorem point_spec (c : Dev nD) : bodyPre m ρ c ⊢ run c (cc0_body (F := F) xM (Memref.isWhole_whole _) wM (Memref.isWhole_whole _) aM (Memref.isWhole_whole _) bM (Memref.isWhole_whole _) zM (Memref.isWhole_whole _) lM (Memref.isWhole_whole _) rM (Memref.isWhole_whole _) oM (Memref.isWhole_whole _) yM (Memref.isWhole_whole _) cc0_scratch4 cc0_scratch5 cc0_scratch6) (fun _ => bodyPost m ρ c) := by
  unfold bodyPre Φ₀ start
  iintro ⟨⟨⟨⟨%K, #He⟩, Hl, Hc, HZ⟩, Hs⟩, Ho, Hf⟩
  ihave Hf := (found_staged m ρ c) $$ Hf
  unfold Dat.owesAt Pipeline.owesWithin
  icases Ho with ⟨%W, %hW, HO⟩
  iapply (wp_conseq c _ _ _ _ (body_spec m ρ K c) (after_post m ρ c))
  isplitr; · iexact He
  iapply (before_intro m ρ c)
  isplitl [Hl]; · iexact Hl
  isplitl [Hc]; · iexact Hc
  isplitl [HZ]; · iexact HZ
  isplitl [Hs]; · iexact Hs
  isplitl [HO]
  · unfold ow; iexists W; iexact HO
  iexact Hf

set_option maxRecDepth 16000 in
/-- The obligation of the pipeline's one point on device `c`. -/
theorem body_obligation (c : Dev nD) : BodyObligation (dats (F := F) m ρ 0 c) (defs₀ (F := F)) 𝒱₀ () Set.univ := fun t => by
  rw [fin_N0 t]
  rw [bigSep_W0, bigSep_W0]
  exact point_spec m ρ c

end Cert.Gather
-- ==== Proof.Launch.lean ====
/- The launch on four devices: the ghost state minted and dealt around the ring, what each device is owed, and the run. -/
module

public import proofs.«01_k».proof.Proof.Oblig
public import Idealize.ShloMosaic.Lib.Pipeline.CollectiveSegs

@[expose] public section

noncomputable section

namespace Cert.Gather

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The semaphores -/

/-- The body's own semaphores: those of its send and receive cells, and its two for the local copies. -/
abbrev Own : Type := (Bool × Fin 8) ⊕ Fin 2
def osem : Own → SemLoc sig
  | .inl k => csem (some k)
  | .inr s => .dma (outS s)

theorem ownSemFacts : Pipeline.OwnSemFacts cfg0.spec osem := by decide +kernel

theorem share_eq (c : Dev nD) (w : Fin cfg0.W) : (dats m ρ 0 c).share w = fullShare := by unfold Dat.share; split <;> rfl

section
omit [FloatOps F]

theorem unscopedSems0_eq (c : Dev nD) : (unscopedSems0 c : sProp 𝕄) = semVal (kc c bar) 0 := by
  unfold unscopedSems0; rw [bigSep_eq_bigSepL_of_eq [SemLoc.reg barS] (by decide) (by decide)]; rfl

theorem cell_split {M : Type} [URA M] (Φ : Cell → sProp M) : bigSep Finset.univ Φ = iprop(Φ bar ∗ bigSep Finset.univ fun k : Bool × Fin 8 => Φ (some k)) := by
  rw [bigSep_univ_equiv (Equiv.optionEquivSumPUnit.{0, 0} (Bool × Fin 8)).symm Φ, bigSep_univ_sum, bigSep_univ_of_subsingleton PUnit.unit.{1}]
  exact Entails.antisymm BI.sep_comm BI.sep_comm

theorem ownSems0_eq (c : Dev nD) : (Pipeline.ownSems0 (Ix := Unit) (Name := ℕ) (U := UU) (Lvl := ℕ) (Val := Elt F) (τ := τ) osem c : sProp 𝕄)
    = iprop((bigSep Finset.univ fun k : Bool × Fin 8 => semVal (kc c (some k)) 0) ∗ semVal (oc c 0) 0 ∗ semVal (oc c 1) 0) := by
  unfold Pipeline.ownSems0
  rw [bigSep_univ_sum, two]
  rfl

theorem zeros_eq (c : Dev nD) : (zeros c : sProp 𝕄)
    = iprop((semVal (kc c bar) 0 ∗ bigSep Finset.univ fun k : Bool × Fin 8 => semVal (kc c (some k)) 0) ∗ semVal (oc c 0) 0 ∗ semVal (oc c 1) 0) := by
  unfold zeros; rw [cell_split]

theorem zeros_of_sems (c : Dev nD) :
    iprop(Pipeline.ownSems0 (Ix := Unit) (Name := ℕ) (U := UU) (Lvl := ℕ) (Val := Elt F) (τ := τ) osem c ∗ unscopedSems0 c) ⊢ (zeros c : sProp 𝕄) := by
  rw [zeros_eq, ownSems0_eq, unscopedSems0_eq]
  iintro ⟨⟨HK, HO⟩, HB⟩
  isplitl [HB HK]
  · isplitl [HB] <;> iassumption
  iexact HO

theorem sems_of_zeros (c : Dev nD) : (zeros c : sProp 𝕄)
    ⊢ iprop(Pipeline.ownSems0 (Ix := Unit) (Name := ℕ) (U := UU) (Lvl := ℕ) (Val := Elt F) (τ := τ) osem c ∗ unscopedSems0 c) := by
  rw [zeros_eq, ownSems0_eq, unscopedSems0_eq]
  iintro ⟨⟨HB, HK⟩, HO⟩
  isplitr [HB]
  · isplitl [HK] <;> iassumption
  iexact HB

/-! ## The cells and their tokens -/

theorem kc_injective : Function.Injective (fun ck : Dev nD × Cell => kc ck.1 ck.2) := fun a b h => by
  obtain ⟨h1, h2⟩ := kc_inj h; exact Prod.ext h1 h2
def ringCells : Finset (GSem nD τ sig) := Finset.univ.map ⟨fun ck : Dev nD × Cell => kc ck.1 ck.2, kc_injective⟩

/-- The duties of a device's cells: the barrier's two, one of every other cell. -/
abbrev Duty : Type := Bool ⊕ (Fin 8 ⊕ Fin 8)
def dutyAt : Duty → Cell × Bool
  | .inl b => (bar, b)
  | .inr (.inl i) => (snd i, false)
  | .inr (.inr i) => (rcv i, false)
theorem dutyAt_injective : Function.Injective dutyAt := by decide +kernel

def tok (x : Dev nD × Duty) : GSem nD τ sig × ℕ × Bool := (kc x.1 (dutyAt x.2).1, 0, (dutyAt x.2).2)
theorem tok_injective : Function.Injective tok := fun a b h => by
  have h1 : kc a.1 (dutyAt a.2).1 = kc b.1 (dutyAt b.2).1 := congrArg Prod.fst h
  have h2 : (dutyAt a.2).2 = (dutyAt b.2).2 := congrArg (fun x : GSem nD τ sig × ℕ × Bool => x.2.2) h
  obtain ⟨e1, e2⟩ := kc_inj h1
  exact Prod.ext e1 (dutyAt_injective (Prod.ext e2 h2))
def ringToks : Finset (GSem nD τ sig × ℕ × Bool) := Finset.univ.map ⟨tok, tok_injective⟩
end

def u₀ : UU :=
  (initOf (Pipeline.cells cfgs cellOf_inj) (Pipeline.launchToks cfgs cellOf_inj), (initOf ringCells ringToks, 1))

/-- The tokens of the duties of a device's own cells. -/
def toks (c : Dev nD) : sProp 𝕄 :=
  iprop((dutyTok ER (kc c bar) 0 false ∗ dutyTok ER (kc c bar) 0 true)
    ∗ (bigSep Finset.univ fun i : Fin 8 => dutyTok ER (kc c (snd i)) 0 false)
    ∗ (bigSep Finset.univ fun i : Fin 8 => dutyTok ER (kc c (rcv i)) 0 false))

/-- What the launch element deals a device. -/
def G (c : Dev nD) : sProp 𝕄 :=
  iprop((bigSep Finset.univ fun k : Cell => roundState ER (rd m ρ) (kc c k) 0)
    ∗ (bigSep Finset.univ fun k : Cell => iprop(atPos ER (kc c k) 0 ∅ 0 ∗ reached ER (kc c k) 0)) ∗ toks c)

/-- What every device has once the invariants stand. -/
def G' (c : Dev nD) : sProp 𝕄 := iprop((∃ K, records m ρ K) ∗ linear c)

section
omit [FloatOps F]

theorem over_cells (Φ : GSem nD τ sig → sProp (MT nD τ sig Unit (Elt F) ℕ UU ℕ)) :
    bigSep ringCells Φ = bigSep Finset.univ fun c : Dev nD => bigSep Finset.univ fun k : Cell => Φ (kc c k) := by
  unfold ringCells; rw [bigSep_map, bigSep_univ_prod]; rfl

theorem over_toks : bigSep ringToks (fun x => (dutyTok ER x.1 x.2.1 x.2.2 : sProp 𝕄)) = bigSep Finset.univ fun c : Dev nD => toks c := by
  unfold ringToks; rw [bigSep_map, bigSep_univ_prod]
  refine bigSep_congr fun c _ => ?_
  rw [bigSep_univ_sum, bigSep_univ_sum, bigSep_univ_eq_bigSepL [false, true] (by decide) (by decide), bigSepL_cons_cons, bigSepL_singleton]
  rfl

theorem fund_ring : BI.own (ER (initOf ringCells ringToks)) ⊢ (|==> bigSep Finset.univ (G m ρ) : sProp 𝕄) := by
  iintro HX
  imod (Rounds.fund ER (rd m ρ) ringCells ringToks) $$ HX with ⟨Hst, Hr, Hat, Htok⟩
  imodintro
  ihave Hst := (Entails.of_eq (over_cells fun g => roundState ER (rd m ρ) g 0)) $$ Hst
  ihave Hat := (Entails.of_eq (over_cells fun g => atPos ER g 0 ∅ 0)) $$ Hat
  ihave Hr := (Entails.of_eq (over_cells fun g => reached ER g 0)) $$ Hr
  ihave Htok := (Entails.of_eq (over_toks (F := F))) $$ Htok
  unfold G; simp only [bigSep_sep']
  isplitl [Hst]; · iexact Hst
  isplitr [Htok]
  · isplitl [Hat] <;> iassumption
  iexact Htok

/-! ## The invariants -/

theorem core_inv (c : Dev nD) : iprop((bigSep Finset.univ fun k : Cell => semVal (kc c k) 0) ∗ bigSep Finset.univ fun k : Cell => roundState ER (rd m ρ) (kc c k) 0)
    ⊢ (|={Set.univ}=> bigSep Finset.univ fun k : Cell => iprop(∃ κ : ℕ, cellInv ER (rd m ρ) κ (kc c k)) : sProp 𝕄) := by
  rw [← bigSep_sep']
  exact (bigSep_mono fun k _ => (Rounds.body_intro ER (rd m ρ) (kc c k)).trans inv_alloc).trans (bigSep_fupd _ _)

/-- A device once its own invariants stand. -/
def cored (c : Dev nD) : sProp 𝕄 :=
  iprop((bigSep Finset.univ fun k : Cell => iprop(∃ κ : ℕ, cellInv ER (rd m ρ) κ (kc c k)))
    ∗ (bigSep Finset.univ fun k : Cell => reached ER (kc c k) 0) ∗ toks c
    ∗ (bigSep Finset.univ fun k : Cell => atPos ER (kc c k) 0 ∅ 0) ∗ semVal (oc c 0) 0 ∗ semVal (oc c 1) 0)

theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> cored m ρ c := by
  unfold G
  rw [bigSep_sep']
  iintro ⟨Hos, Hus, Hst, ⟨Hat, Hr⟩, Htok⟩
  ihave Hz := (zeros_of_sems (F := F) c) $$ [Hos Hus]
  · isplitl [Hos] <;> iassumption
  unfold zeros
  icases Hz with ⟨Hv, Ho⟩
  imod (core_inv m ρ c) $$ [Hv Hst] with Hinv
  · isplitl [Hv] <;> iassumption
  imodintro
  unfold cored
  isplitl [Hinv]; · iexact Hinv
  isplitl [Hr]; · iexact Hr
  isplitl [Htok]; · iexact Htok
  isplitl [Hat]; · iexact Hat
  iexact Ho

/-- The ring as transfer `i` goes along it. -/
def way (i : Fin 8) : Dev nD ≃ Dev nD := if i.val % 4 < 2 then ring else ring.symm
theorem way_eq (i : Fin 8) (c : Dev nD) : way i c = dest c i := by
  unfold way dest; split <;> rfl

/-- Every duty's token goes to the device that pays it. -/
theorem toks_around : (bigSep Finset.univ fun c : Dev nD => (toks c : sProp 𝕄)) ⊢ bigSep Finset.univ fun c : Dev nD => payToks c := by
  have hv : (bigSep Finset.univ fun c : Dev nD => bigSep Finset.univ fun i : Fin 8 => (dutyTok ER (kc c (rcv i)) 0 false : sProp 𝕄))
      = bigSep Finset.univ fun c : Dev nD => bigSep Finset.univ fun i : Fin 8 => dutyTok ER (kc (dest c i) (rcv i)) 0 false := by
    rw [bigSep_univ_comm, bigSep_univ_comm (fun (c : Dev nD) (i : Fin 8) => (dutyTok ER (kc (dest c i) (rcv i)) 0 false : sProp 𝕄))]
    refine bigSep_congr fun i _ => ?_
    rw [bigSep_univ_equiv (way i) (fun c : Dev nD => (dutyTok ER (kc c (rcv i)) 0 false : sProp 𝕄))]
    exact bigSep_congr fun c _ => by rw [way_eq]
  unfold toks payToks
  rw [bigSep_sep', bigSep_sep', bigSep_sep', bigSep_sep', bigSep_sep', bigSep_sep', hv,
    bigSep_univ_equiv ring.symm (fun c : Dev nD => (dutyTok ER (kc c bar) 0 false : sProp 𝕄)),
    bigSep_univ_equiv ring (fun c : Dev nD => (dutyTok ER (kc c bar) 0 true : sProp 𝕄))]
  iintro ⟨⟨H1, H2⟩, H3, H4⟩
  isplitl [H1]; · iexact H1
  isplitl [H2]; · iexact H2
  isplitl [H3]; · iexact H3
  iexact H4

theorem deal (K : Dev nD × Cell → ℕ) (Ψ : Dev nD → sProp (MT nD τ sig Unit (Elt F) ℕ UU ℕ)) :
    iprop(records (F := F) m ρ K ∗ bigSep Finset.univ Ψ) ⊢ bigSep Finset.univ fun c => iprop((∃ K, records m ρ K) ∗ Ψ c) := by
  refine (sep_mono_left (BI.bigSep_of_persistent (Finset.univ : Finset (Dev nD)) (records (F := F) m ρ K))).trans ?_
  rw [← bigSep_sep']
  refine bigSep_mono fun c _ => ?_
  show iprop(records m ρ K ∗ Ψ c) ⊢ iprop((∃ K, records m ρ K) ∗ Ψ c)
  iintro ⟨HR, H⟩
  isplitl [HR]
  · iexists K; iexact HR
  iexact H

theorem linear_all : iprop((bigSep Finset.univ fun c : Dev nD => bigSep Finset.univ fun k : Cell => (atPos ER (kc c k) 0 ∅ 0 : sProp 𝕄))
    ∗ (bigSep Finset.univ fun c : Dev nD => payToks c) ∗ (bigSep Finset.univ fun c : Dev nD => semVal (oc c 0) 0) ∗ (bigSep Finset.univ fun c : Dev nD => semVal (oc c 1) 0))
    ⊢ (bigSep Finset.univ fun c : Dev nD => (linear c : sProp 𝕄)) := by
  unfold linear
  rw [bigSep_sep', bigSep_sep', bigSep_sep']

theorem regroup : (bigSep Finset.univ (cored m ρ) : sProp 𝕄) ⊢ bigSep Finset.univ (G' m ρ) := by
  unfold cored
  rw [bigSep_sep', bigSep_sep', bigSep_sep', bigSep_sep', bigSep_sep', ← bigSep_univ_prod (fun ck : Dev nD × Cell => iprop(∃ κ : ℕ, cellInv ER (rd m ρ) κ (kc ck.1 ck.2))),
    ← bigSep_univ_prod (fun ck : Dev nD × Cell => (reached ER (kc ck.1 ck.2) 0 : sProp 𝕄))]
  iintro ⟨HI, HR, Htok, Hat, Ho⟩
  ihave HK := (BI.bigSep_exists_pi Finset.univ (fun (ck : Dev nD × Cell) (κ : ℕ) => (cellInv ER (rd m ρ) κ (kc ck.1 ck.2) : sProp 𝕄))) $$ HI
  icases HK with ⟨%K, HI⟩
  ihave Htok := (toks_around (F := F)) $$ Htok
  unfold G'
  iapply (deal m ρ K fun c => linear c)
  isplitl [HI HR]
  · unfold records; isplitl [HI] <;> iassumption
  iapply (linear_all (F := F))
  isplitl [Hat]; · iexact Hat
  isplitl [Htok] <;> iassumption

theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## What a device is owed -/

theorem count_bar (c : Dev nD) : ∑ d : Dev nD, (olist d).count (c, bar) = 2 := by revert c; decide +kernel
theorem count_rcv (c : Dev nD) (i : Fin 8) : ∑ d : Dev nD, (olist d).count (c, rcv i) = 1 := by revert c i; decide +kernel

theorem launch_at (c : Dev nD) (k : Cell) (n : ℕ) (hn : ∑ d : Dev nD, (olist d).count (c, k) = n) :
    tallyOn (kc c k) (launchCredit (Pipeline.owing O₀) 0 (kc c k)) = (tallyAt (kc c k) () (n * amt k) : CellTallies nD τ sig Unit) := by
  unfold tallyAt; refine congrArg _ (Finsupp.ext fun u => ?_); cases u
  rw [Pipeline.launchCredit_owing, Finsupp.single_eq_same, ← hn, Finset.sum_mul]
  exact Finset.sum_congr rfl fun d _ => oweL_kc c k (olist d)

theorem creds (c : Dev nD) : (Pipeline.launchCred O₀ c : sProp 𝕄) ⊢ credits c := by
  unfold Pipeline.launchCred credits
  refine (bigSep_subset (Finset.subset_univ ((Finset.univ : Finset Cell).map ⟨csem, csem_injective⟩))).trans ?_
  rw [bigSep_map, cell_split, bigSep_univ_prod, bigSep_univ_eq_bigSepL [false, true] (by decide) (by decide), bigSepL_cons_cons, bigSepL_singleton]
  have hb : (cred (tallyOn (kc c bar) (launchCredit (Pipeline.owing O₀) 0 (kc c bar))) : sProp 𝕄) ⊢ cred (tallyAt (kc c bar) () 2) := by
    rw [launch_at c bar 2 (count_bar c)]; exact .rfl
  have hv : (bigSep Finset.univ fun i : Fin 8 => cred (tallyOn (kc c (rcv i)) (launchCredit (Pipeline.owing O₀) 0 (kc c (rcv i)))) : sProp 𝕄)
      ⊢ bigSep Finset.univ fun i : Fin 8 => cred (tallyAt (kc c (rcv i)) () (amt (rcv i))) :=
    Entails.of_eq (bigSep_congr fun i _ => by rw [launch_at c (rcv i) 1 (count_rcv c i), Nat.one_mul])
  show iprop(cred (tallyOn (kc c bar) (launchCredit (Pipeline.owing O₀) 0 (kc c bar)))
      ∗ (bigSep Finset.univ fun i : Fin 8 => cred (tallyOn (kc c (snd i)) (launchCredit (Pipeline.owing O₀) 0 (kc c (snd i)))))
      ∗ (bigSep Finset.univ fun i : Fin 8 => cred (tallyOn (kc c (rcv i)) (launchCredit (Pipeline.owing O₀) 0 (kc c (rcv i))))))
    ⊢ iprop(cred (tallyAt (kc c bar) () 2) ∗ bigSep Finset.univ fun i : Fin 8 => cred (tallyAt (kc c (rcv i)) () (amt (rcv i))))
  iintro ⟨HB, -, H⟩
  isplitl [HB]
  · iapply hb; iexact HB
  · iapply hv; iexact H
end

/-! ## The launch's side conditions -/

section
omit [FloatOps F]
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  rw [Pipeline.unscopedRestP_none, show cfg0.spec = spec0 from rfl, unscopedRest0_eq]
  unfold G'
  iintro ⟨Hz, Hlev, Hcr, -, ⟨%K, HK⟩, Hl⟩
  ihave Hc := (creds (F := F) c) $$ Hcr
  imodintro
  unfold start
  isplitl
  · isplitl [HK Hlev]
    · iexists K; unfold env; isplitl [HK] <;> iassumption
    isplitl [Hl]; · iexact Hl
    isplitl [Hc]; · iexact Hc
    rw [any_whole]
    iexists _; iexact Hz
  · iempintro

theorem scratch_eq (c : Dev nD) : (Pipeline.scopedRest cfg0.spec c : sProp 𝕄) = scratch c := by
  rw [show cfg0.spec = spec0 from rfl, scopedRest0_eq]
  unfold scratch
  rw [any_whole, any_whole, any_whole, any_whole]
end

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scratch_eq]
  unfold Φ₀
  iintro ⟨Hs, -, Hr⟩
  isplitl [Hs] <;> iassumption

/-- What a device ends with beside its arrays and scoped buffers: its unscoped counters at zero, the result. -/
def left (c : Dev nD) : sProp 𝕄 := iprop(unscopedSems0 c ∗ owns (c : Thread nD τ) zM fullShare (outC m ρ c))

theorem phi1_exit (c : Dev nD) :
    (dats m ρ 0 c).Φ (Fin.last cfg0.N) ⊢ iprop(left m ρ c ∗ Pipeline.ownSems0 osem c ∗ Pipeline.scopedRest cfg0.spec c) := by
  rw [show (dats m ρ 0 c).Φ (Fin.last cfg0.N) = Φ₁ m ρ c from rfl, scratch_eq]
  unfold Φ₁ left
  iintro ⟨Hz, Ho, Hs⟩
  ihave Hz := (sems_of_zeros (F := F) c) $$ Hz
  icases Hz with ⟨Hos, Hus⟩
  isplitl [Hus Ho]
  · isplitl [Hus] <;> iassumption
  isplitl [Hos] <;> iassumption

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-- The state read at the end: every unscoped counter zero, the result what it should be. -/
theorem left_read (c : Dev nD) (s' : Phys nD τ sig (Elt F)) :
    iprop(left m ρ c ∗ emp ∗ SI s') ⊢ |={Set.univ}=> iprop(⌜(∀ sm : SemLoc sig, sm.isScoped .tc = false → s'.mem.sem ((c : Thread nD τ), sm) = 0)
      ∧ s'.mem.mem ((c : Thread nD τ).loc main_v1) = outC m ρ c⌝ ∗ SI s') := by
  have ho : (owns (c : Thread nD τ) zM fullShare (outC m ρ c) : sProp 𝕄) ⊢ ((c : Thread nD τ).loc main_v1 ↦[zM.view.set]{fullShare} outC m ρ c) :=
    owns_read_pts (c : Thread nD τ) zM fullShare (outC m ρ c)
  unfold left
  iintro ⟨⟨Hu, Ho⟩, -, HSI⟩
  ihave Ho := ho $$ Ho
  ihave %h := (SI_pointsTo_agree (st := s') (ℓ := (c : Thread nD τ).loc main_v1)) $$ [HSI Ho]
  · isplitl [HSI]; · iexact HSI
    iexact Ho
  imod (Pipeline.unscopedSems0_read (X := unscopedSems0 c) (c := c) fupd_intro s') $$ [Hu HSI] with ⟨%hz, HSI⟩
  · isplitl [Hu] <;> iassumption
  imodintro
  isplitr
  · ipureintro
    refine ⟨hz, funext fun i => h i ?_⟩
    show i ∈ (View.whole main_v1).set
    rw [View.set_whole]; exact Finset.mem_univ _
  iexact HSI

/-! ## The run -/

/-- The final state: the arrays of the windows as they were, the result. -/
def Final : PUnit × MemSt nD τ sig (Elt F) → Prop := fun r =>
  (∀ c : Dev nD, (∀ w : Fin cfg0.W, r.2.mem ((cfg0.win w).arr.view.loc (c : Thread nD τ)) = (dats m ρ 0 c).arrAt w cfg0.N)
    ∧ r.2.mem ((c : Thread nD τ).loc main_v1) = outC m ρ c) ∧ r.2.sem = fun _ => 0

set_option maxRecDepth 8000 in
/-- From any memory with every counter zero, every weakly fair run of the four devices ends, with the result on every
    device at its contents, the inputs as they were and every counter back at zero. -/
theorem run_final : θ_run defs (onTc (τ := τ) (main (F := F))) (st₀ m ρ) (Final m ρ) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (show BI.own (embR (initOf ringCells ringToks, 1)) ⊢ (|==> bigSep Finset.univ (G m ρ) : sProp 𝕄) from fund_ring m ρ) $$ HX with HG
      imodintro
      isplitl [HP] <;> iassumption)
    (hglob := glob m ρ)
    (hA := fun _ _ => rfl) (hpf := fun _ k => k.elim0)
    (X := start m ρ) (Y := left m ρ) (Z := fun _ => iprop(emp))
    (hX := start_intro m ρ) (hin := phi0_intro m ρ) (hout := phi1_exit m ρ)
    (QY := fun c s => (∀ sm : SemLoc sig, sm.isScoped .tc = false → s.sem ((c.tc : Thread nD τ), sm) = 0)
      ∧ s.mem ((c : Thread nD τ).loc main_v1) = outC m ρ c)
    (hY := left_read m ρ)
    (hQ := fun _ h hs => ⟨fun c => ⟨(h c).1, (h c).2.2.2⟩, sem_eq_zero hs fun c => (h c).2.2.1⟩)

theorem run_main : θ_run defs (onTc (τ := τ) (main (F := F))) (st₀ m ρ) (fun r =>
    (∀ c : Dev nD, r.2.mem ((c : Thread nD τ).loc main_v1) = outC m ρ c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)) ∧ r.2.sem = fun _ => 0) :=
  (θ_run _ _ _).mono (fun r h => ⟨fun c => by
    obtain ⟨hw, hz⟩ := h.1 c
    exact ⟨hz, (hw (0 : Fin 4)).trans ((dats m ρ 0 c).arrAt_in (0 : Fin 4) rfl _), (hw (1 : Fin 4)).trans ((dats m ρ 0 c).arrAt_in (1 : Fin 4) rfl _),
      (hw (2 : Fin 4)).trans ((dats m ρ 0 c).arrAt_in (2 : Fin 4) rfl _), (hw (3 : Fin 4)).trans ((dats m ρ 0 c).arrAt_in (3 : Fin 4) rfl _)⟩, h.2⟩) (run_final m ρ)

end Cert.Gather
-- ==== Proof.Frames.lean ====
/- The frames: the run of the ring kernel, read at each float instance, and the reference's run. -/
module

public import proofs.«01_k».proof.Proof.Launch
public import proofs.«01_k».proof.Proof.Gen.Kernel
public import proofs.«01_k».proof.Proof.Gen.ReferenceIdeal.Run

@[expose] public section

noncomputable section

namespace Cert.Gather

open Idealize.ShloMosaic Idealize.SL.Sem
open Idealize.ShloMosaic.TcCoe

attribute [local instance] Cert.Kernel.Gen.facts Cert.KernelIdeal.Gen.facts

variable {F : FTy → Type} [FloatOps F]

/-! ## The program as printed and its ideal reading are one text -/

set_option maxRecDepth 65536 in
/-- The kernel's body is the same function in both programs. -/
theorem bodies_eq : Cert.Kernel.defs₀ (F := F) = Cert.KernelIdeal.defs₀ (F := F) := by
  unfold Cert.Kernel.defs₀ Cert.KernelIdeal.defs₀
  refine congrArg (Defs.onTc (Λ := Cert.KernelIdeal.Λ₀)) ?_
  funext l a
  match l, a with
  | ⟨0, _⟩, (t, s) => rfl
  | ⟨_ + 1, h⟩, _ => exact absurd h (Nat.not_lt.2 (Nat.le_add_left _ _))

set_option maxRecDepth 65536 in
/-- So are the tables of all bodies. -/
theorem tables_eq : Cert.Kernel.defs (F := F) = Cert.KernelIdeal.defs (F := F) := by
  unfold Cert.Kernel.defs Cert.KernelIdeal.defs
  exact congrArg (Idealize.ShloMosaic.Pipeline.defs (Cert.KernelIdeal.pcfgs (F := F))) bodies_eq

set_option maxRecDepth 65536 in
/-- What every run of the ideal program satisfies, every run of the program as printed does, at one float instance. -/
theorem run_printed (s : MemSt Cert.KernelIdeal.nD Cert.KernelIdeal.τ Cert.KernelIdeal.sig (Elt F)) (Q)
    (h : θ_run (Cert.KernelIdeal.defs (F := F)) (onTc (τ := Cert.KernelIdeal.τ) (Cert.KernelIdeal.main (F := F))) s Q) :
    θ_run (Cert.Kernel.defs (F := F)) (onTc (τ := Cert.Kernel.τ) (Cert.Kernel.main (F := F))) s Q := by
  rw [tables_eq (F := F)]; exact h

/-! ## The frames -/

open Cert.KernelIdeal in
/-- The kernel runs, its arguments end unchanged, and every counter is zero again: for any float values. -/
theorem frame (m : (ℓ : Loc nD τ sig) → Buf (Elt F) ℓ) (ρ : Dev nD → PrngReg) :
    θ_run (defs (F := F)) (onTc (τ := τ) (main (F := F))) ⟨m, fun _ => 0, ρ⟩ (fun r =>
      (∀ c : Dev nD, r.2.mem ((c : Thread nD τ).loc main_arg0) = m ((c : Thread nD τ).loc main_arg0)
        ∧ r.2.mem ((c : Thread nD τ).loc main_arg1) = m ((c : Thread nD τ).loc main_arg1)
        ∧ r.2.mem ((c : Thread nD τ).loc main_arg2) = m ((c : Thread nD τ).loc main_arg2)
        ∧ r.2.mem ((c : Thread nD τ).loc main_arg3) = m ((c : Thread nD τ).loc main_arg3)) ∧ r.2.sem = fun _ => 0) :=
  (θ_run _ _ _).mono (fun _ h => ⟨fun c => (h.1 c).2, h.2⟩) (run_main (F := F) m ρ)

/-- The reference's run keeps its arguments; it declares no semaphore. -/
theorem frame_reference (m : (ℓ : Loc Cert.ReferenceIdeal.nD Cert.ReferenceIdeal.τ Cert.ReferenceIdeal.sig) → Buf (Elt F) ℓ)
    (ρ : Dev Cert.ReferenceIdeal.nD → PrngReg) :
    θ_run (Cert.ReferenceIdeal.defs (F := F)) (onTc (τ := Cert.ReferenceIdeal.τ) (@Cert.ReferenceIdeal.main F _ Cert.ReferenceIdeal.Gen.facts)) ⟨m, fun _ => 0, ρ⟩ (fun r =>
      (∀ c : Dev Cert.ReferenceIdeal.nD,
        r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
        ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0) :=
  (θ_run _ _ _).mono (fun r h => ⟨fun c => (h c).2, sem_eq_zero_of_no_sems (by decide) r.2⟩)
    (Cert.ReferenceIdeal.Value.run (F := F) m ρ)

end Cert.Gather

end
-- ==== Proof.Sums.lean ====
/- Sums of products of 8-bit words: the chip's int8 product, the reference's product, the mask and the precondition, each read
   at one element as a sum of integers. -/
module

public import proofs.«01_k».proof.Proof.Split
public import proofs.«01_k».proof.ReferenceIdeal
public import proofs.«01_k».proof.On_exact
public import proofs.«01_k».proof.Pre_tame_KernelIdeal
public import Idealize.ShloMosaic.Lib.IntMxu
public import Idealize.ShloMosaic.Lib.IdealHost
public import Idealize.ShloMosaic.Lib.Pointwise

@[expose] public section

noncomputable section

namespace Cert.Gather

open Idealize.ShloMosaic
open scoped BigOperators

/-! ## Integers inside the extended reals -/

/-- The constant of the mask and of the precondition is 2 to the 24. -/
theorem ofBits_two24 : Ideal.ofBits .f32 0x4B800000#32 = ((16777216 : ℝ) : EReal) := by
  simp [Ideal.ofBits, Ideal.ieee, -EReal.coe_mul]; norm_num

/-- A sum of reals, read in the extended reals. -/
theorem coe_sum {ι : Type*} (s : Finset ι) (f : ι → ℝ) : ∑ k ∈ s, ((f k : ℝ) : EReal) = ((∑ k ∈ s, f k : ℝ) : EReal) := by
  classical
  refine Finset.induction_on s (by simp) ?_
  intro a t ha ih
  rw [Finset.sum_insert ha, Finset.sum_insert ha, ih, EReal.coe_add]

/-- An integer, read in the extended reals. -/
def er (z : ℤ) : EReal := ((z : ℝ) : EReal)

theorem er_mul (y z : ℤ) : er y * er z = er (y * z) := by
  unfold er; rw [← EReal.coe_mul, ← Int.cast_mul]

theorem er_sum {ι : Type*} (s : Finset ι) (f : ι → ℤ) : ∑ k ∈ s, er (f k) = er (∑ k ∈ s, f k) := by
  unfold er; rw [coe_sum, Int.cast_sum]

/-- The larger of an integer and its negation is its magnitude. -/
theorem er_abs (z : ℤ) : max (er z) (-er z) = er |z| := by
  unfold er
  rw [← EReal.coe_neg, ← EReal.coe_strictMono.monotone.map_max, Int.cast_abs]
  rfl

/-- An integer is below the mask's constant exactly as integers compare. -/
theorem er_lt (z : ℤ) : er z < Ideal.ofBits .f32 0x4B800000#32 ↔ z < 2 ^ 24 := by
  rw [ofBits_two24]; unfold er
  rw [EReal.coe_lt_coe_iff]
  constructor
  · intro h
    have : (z : ℝ) < ((16777216 : ℤ) : ℝ) := by simpa using h
    have := Int.cast_lt.mp this
    omega
  · intro h
    have : z < 16777216 := by omega
    have := (Int.cast_lt (R := ℝ)).mpr this
    simpa using this

/-- A comparison's bit set is the comparison true. -/
theorem below (p : Prop) [Decidable p] (h : BitVec.ofBool (decide p) = 1#1) : p := by
  by_cases hp : p
  · exact hp
  · simp [hp] at h

/-- A word widened to 32 bits and converted is the word's integer. -/
theorem word_er (b : BitVec 8) : Scalar.sitofp (F := Ideal) .f32 (b.signExtend 32) = er b.toInt := by
  rw [Ideal.scalar_sitofp_def, BitVec.toInt_signExtend_of_le (by decide)]
  rfl

/-- A word's product total: the integers of row `r` against column `j`. -/
def total {a n c : ℕ} (x : IVec ⟨2, ![a, n]⟩ 8) (w : IVec ⟨2, ![n, c]⟩ 8) (r : Fin a) (j : Fin c) : ℤ :=
  ∑ k : Fin n, (x (ix2 r k)).toInt * (w (ix2 k j)).toInt

/-- The total of the products' magnitudes. -/
def size {a n c : ℕ} (x : IVec ⟨2, ![a, n]⟩ 8) (w : IVec ⟨2, ![n, c]⟩ 8) (r : Fin a) (j : Fin c) : ℤ :=
  ∑ k : Fin n, |(x (ix2 r k)).toInt| * |(w (ix2 k j)).toInt|

/-! ## The chip's product at an element -/

section Chip
open Cert.KernelIdeal Cert.KernelIdeal.Gen

theorem chip_total (x : IVec S256x4096 8) (w : IVec S4096x2048 8) (r : Fin 256) (j : Fin 2048) :
    dotI8 dot_S256x4096_S4096x2048_S256x2048_1_0_0_1_n_n x w (ix2 r j) = total x w r j := by
  unfold dotI8 total
  rw [DotDims.sum_contr₁ _ (a := 1) rfl (K := 4096) rfl]
  refine Finset.sum_congr rfl fun k _ => ?_
  rw [eq_ix2 (DotDims.lhsIdx _ _ _), eq_ix2 (DotDims.rhsIdx _ _ _)]
  rfl

theorem chip_size (x : IVec S256x4096 8) (w : IVec S4096x2048 8) (r : Fin 256) (j : Fin 2048) :
    ((absDotI8 dot_S256x4096_S4096x2048_S256x2048_1_0_0_1_n_n x w (ix2 r j) : ℕ) : ℤ) = size x w r j := by
  unfold absDotI8 size
  rw [DotDims.sum_contr₁ _ (a := 1) rfl (K := 4096) rfl, Nat.cast_sum]
  refine Finset.sum_congr rfl fun k _ => ?_
  rw [Int.natCast_natAbs, abs_mul, eq_ix2 (DotDims.lhsIdx _ _ _), eq_ix2 (DotDims.rhsIdx _ _ _)]
  rfl

/-- One element of a tile, where the products' magnitudes total less than 2 to the 24. -/
theorem prod_apply (s : Ideal .f32) (x : IVec S256x4096 8) (w : IVec S4096x2048 8) (r : Fin 256) (j : Fin 2048)
    (h : size x w r j < 2 ^ 24) : prod (F := Ideal) s x w (ix2 r j) = max (er (total x w r j) * s) 0 := by
  have hb : absDotI8 dot_S256x4096_S4096x2048_S256x2048_1_0_0_1_n_n x w (ix2 r j) ≤ IntMxuNumerics.v7x.exactUpTo := by
    have h1 := chip_size x w r j
    have h2 : IntMxuNumerics.v7x.exactUpTo = 2 ^ 24 - 1 := rfl
    omega
  have hv := matmulI8_toInt IntMxuNumerics.v7x dot_S256x4096_S4096x2048_S256x2048_1_0_0_1_n_n x w
    (constantI S256x2048 32 0#32) (ix2 r j) rfl hb (by decide)
  rw [chip_total] at hv
  rw [← hv, ← Ideal.ofBits_zero_f32]
  rfl

end Chip

/-! ## The reference, the mask and the precondition at an element -/

section Mask
variable [Cert.On_exact.Facts]

/-- An element of the mask has products whose magnitudes total less than 2 to the 24. -/
theorem mask_size (X : IVec Cert.On_exact.S4096x4096 8) (W : IVec Cert.On_exact.S4096x8192 8) (a b : FVec Ideal Cert.On_exact.S1 .f32)
    (r : Fin 4096) (j : Fin 8192) (h : Cert.On_exact.fn (F := Ideal) X W a b (ix2 r j) = 1#1) : size X W r j < 2 ^ 24 := by
  have hs : Host.dotGeneral (F := Ideal) (φ₁ := .f32) (φ₂ := .f32) Cert.On_exact.dot_S4096x4096_S4096x8192_S4096x8192_1_0_0_1_n_n none
      (Host.absf (sitofp .f32 (extsi 32 X Cert.On_exact.Facts.natLt_8_32)))
      (Host.absf (sitofp .f32 (extsi 32 W Cert.On_exact.Facts.natLt_8_32))) (ix2 r j) = er (size X W r j) := by
    show Ideal.matmul Cert.On_exact.dot_S4096x4096_S4096x8192_S4096x8192_1_0_0_1_n_n _ _ _ _ = _
    rw [Ideal.matmul_apply₁_of _ (a := 1) rfl (K := 4096) rfl _ _ _ _ (fun k => ix2 r k) (fun k => ix2 k j)
      (fun k => (eq_ix2 _).trans rfl) (fun k => (eq_ix2 _).trans rfl), zero_add]
    unfold size
    rw [← er_sum]
    refine Finset.sum_congr rfl fun k _ => ?_
    rw [← er_mul, ← er_abs, ← er_abs, ← word_er, ← word_er]
    rfl
  unfold Cert.On_exact.fn at h
  dsimp only at h
  rw [ValueIdx.cmpf_apply, Ideal.cmpf_def, hs] at h
  have h2 := below _ h
  exact (er_lt _).mp h2

end Mask

section Tame
variable [Cert.Pre_tame_KernelIdeal.Facts]

/-- The precondition bounds the sum of squares of every row of the block of `x` … -/
theorem tame_rows (x : IVec Cert.Pre_tame_KernelIdeal.S1024x4096 8) (w : IVec Cert.Pre_tame_KernelIdeal.S4096x2048 8)
    (a b : FVec Ideal Cert.Pre_tame_KernelIdeal.S1 .f32)
    (h : (Cert.Pre_tame_KernelIdeal.fn (F := Ideal) x w a b).1 = fun _ => 1#1) (r : Fin 1024) :
    ∑ k : Fin 4096, (x (ix2 r k)).toInt ^ 2 < 2 ^ 24 := by
  have hr : Cert.Pre_tame_KernelIdeal.S1024x4096.Reduces [1] Cert.Pre_tame_KernelIdeal.S1024 := by decide
  have h1 := congrFun h (ix1 r)
  have h2 := below _ h1
  beta_reduce at h2
  rw [← er_lt, ← er_sum]
  refine lt_of_eq_of_lt ?_ h2
  rw [ValueIdx.hostReduceAdd_apply, Ideal.hostReduceAdd_single _ hr]
  show _ = Ideal.ofBits .f32 0x00000000#32 + _
  rw [Ideal.ofBits_zero_f32, zero_add]
  refine Finset.sum_congr rfl fun k _ => ?_
  have hl : hr.lift (ix1 r) k = ix2 r k := (eq_ix2 _).trans rfl
  rw [pow_two, ← er_mul, ← word_er]
  refine Eq.trans ?_ (congrArg _ hl.symm)
  rfl

/-- … and of every column of the block of `w`. -/
theorem tame_cols (x : IVec Cert.Pre_tame_KernelIdeal.S1024x4096 8) (w : IVec Cert.Pre_tame_KernelIdeal.S4096x2048 8)
    (a b : FVec Ideal Cert.Pre_tame_KernelIdeal.S1 .f32)
    (h : (Cert.Pre_tame_KernelIdeal.fn (F := Ideal) x w a b).2 = fun _ => 1#1) (j : Fin 2048) :
    ∑ k : Fin 4096, (w (ix2 k j)).toInt ^ 2 < 2 ^ 24 := by
  have hr : Cert.Pre_tame_KernelIdeal.S4096x2048.Reduces [0] Cert.Pre_tame_KernelIdeal.S2048 := by decide
  have h1 := congrFun h (ix1 j)
  have h2 := below _ h1
  beta_reduce at h2
  rw [← er_lt, ← er_sum]
  refine lt_of_eq_of_lt ?_ h2
  rw [ValueIdx.hostReduceAdd_apply, Ideal.hostReduceAdd_single _ hr]
  show _ = Ideal.ofBits .f32 0x00000000#32 + _
  rw [Ideal.ofBits_zero_f32, zero_add]
  refine Finset.sum_congr rfl fun k _ => ?_
  have hl : hr.lift (ix1 j) k = ix2 k j := (eq_ix2 _).trans rfl
  rw [pow_two, ← er_mul, ← word_er]
  refine Eq.trans ?_ (congrArg _ hl.symm)
  rfl

end Tame

/-- Where the squares of a row and of a column total less than 2 to the 24 each, so do the magnitudes of their products. -/
theorem size_lt {a n c : ℕ} (x : IVec ⟨2, ![a, n]⟩ 8) (w : IVec ⟨2, ![n, c]⟩ 8) (r : Fin a) (j : Fin c)
    (hx : ∑ k : Fin n, (x (ix2 r k)).toInt ^ 2 < 2 ^ 24) (hw : ∑ k : Fin n, (w (ix2 k j)).toInt ^ 2 < 2 ^ 24) :
    size x w r j < 2 ^ 24 := by
  have h := Finset.sum_mul_sq_le_sq_mul_sq Finset.univ (fun k : Fin n => |(x (ix2 r k)).toInt|) (fun k => |(w (ix2 k j)).toInt|)
  simp only [sq_abs] at h
  have hx0 : 0 ≤ ∑ k : Fin n, (x (ix2 r k)).toInt ^ 2 := Finset.sum_nonneg fun _ _ => sq_nonneg _
  have hw0 : 0 ≤ ∑ k : Fin n, (w (ix2 k j)).toInt ^ 2 := Finset.sum_nonneg fun _ _ => sq_nonneg _
  change size x w r j ^ 2 ≤ _ at h
  by_contra hc
  have hc := not_lt.mp hc
  nlinarith

/-! ## The reference's value -/

section Ref
variable [Cert.ReferenceIdeal.Facts]
open Cert.ReferenceIdeal Cert.ReferenceIdeal.Facts₀

/-- What the reference computes of its four arguments. -/
def refVal (X : IVec S4096x4096 8) (W : IVec S4096x8192 8) (a b : FVec Ideal S1 .f32) : FVec Ideal S4096x8192 .f32 :=
  maximumf (mulf (Host.dotGeneral dot_S4096x4096_S4096x8192_S4096x8192_1_0_0_1_n_n none (sitofp .f32 (extsi 32 X natLt_8_32))
      (sitofp .f32 (extsi 32 W natLt_8_32)))
    (broadcastInDim S4096x8192 ![0, 1] bcast_S1x1_S4096x8192_0_1 (broadcastInDim S1x1 ![1] bcast_S1_S1x1_1 (mulf a b))))
    (broadcastInDim S4096x8192 ![] bcast_S_S4096x8192 (constant S_ .f32 0x00000000#32))

theorem refVal_apply (X : IVec S4096x4096 8) (W : IVec S4096x8192 8) (a b : FVec Ideal S1 .f32) (r : Fin 4096) (j : Fin 8192) :
    refVal X W a b (ix2 r j) = max (er (total X W r j) * (a (ix1 0) * b (ix1 0) : EReal)) 0 := by
  have hs : Host.dotGeneral (F := Ideal) (φ₁ := .f32) (φ₂ := .f32) dot_S4096x4096_S4096x8192_S4096x8192_1_0_0_1_n_n none
      (sitofp .f32 (extsi 32 X natLt_8_32)) (sitofp .f32 (extsi 32 W natLt_8_32)) (ix2 r j) = er (total X W r j) := by
    show Ideal.matmul dot_S4096x4096_S4096x8192_S4096x8192_1_0_0_1_n_n _ _ _ _ = _
    rw [Ideal.matmul_apply₁_of _ (a := 1) rfl (K := 4096) rfl _ _ _ _ (fun k => ix2 r k) (fun k => ix2 k j)
      (fun k => (eq_ix2 _).trans rfl) (fun k => (eq_ix2 _).trans rfl), zero_add]
    unfold total
    rw [← er_sum]
    refine Finset.sum_congr rfl fun k _ => ?_
    rw [← er_mul, ← word_er, ← word_er]
    rfl
  have hc : broadcastInDim S4096x8192 ![0, 1] bcast_S1x1_S4096x8192_0_1 (broadcastInDim S1x1 ![1] bcast_S1_S1x1_1 (mulf a b)) (ix2 r j)
      = (a (ix1 0) * b (ix1 0) : EReal) := by
    pointwise
  rw [← hs, ← hc, ← Ideal.ofBits_zero_f32]
  rfl

end Ref

end Cert.Gather

end
-- ==== Proof.Algebra.lean ====
/- The value: each device's result is its block of columns of the reference's result, where the int8 products are exact. -/
module

public import proofs.«01_k».proof.Proof.Sums
public import proofs.«01_k».proof.Proof.Launch
public import proofs.«01_k».proof.Proof.Gen.ReferenceIdeal.Run

@[expose] public section

noncomputable section

namespace Cert.Gather

open Cert.KernelIdeal Cert.KernelIdeal.Gen
open Idealize.ShloMosaic Idealize.ShloMosaic.TcCoe
open Idealize.SL.Sem

variable (m : (ℓ : Loc nD τ sig) → Buf (Elt Ideal) ℓ) (ρ : Dev nD → PrngReg)

/-! ## The staged arguments are the arguments -/

theorem xC_eq (c : Dev nD) : xC m ρ c = m ((c : Thread nD τ).loc main_arg0) := by
  have hz : (fun a => (win0_0.index (0 : Fin 1)) a * main_arg0.ty.shape.size a) = fun _ => 0 :=
    funext fun a => by fin_cases a <;> decide
  exact Memref.read_access_unit_zero (Elt Ideal) main_arg0 hz (fun a => by fin_cases a <;> decide) _

theorem wC_eq (c : Dev nD) : wC m ρ c = m ((c : Thread nD τ).loc main_arg1) := by
  have hz : (fun a => (win0_1.index (0 : Fin 1)) a * main_arg1.ty.shape.size a) = fun _ => 0 :=
    funext fun a => by fin_cases a <;> decide
  exact Memref.read_access_unit_zero (Elt Ideal) main_arg1 hz (fun a => by fin_cases a <;> decide) _

theorem aC_eq (c : Dev nD) : aC m ρ c = m ((c : Thread nD τ).loc main_arg2) := by
  have hz : (fun a => (win0_2.index (0 : Fin 1)) a * main_arg2.ty.shape.size a) = fun _ => 0 :=
    funext fun a => by fin_cases a <;> decide
  exact Memref.read_access_unit_zero (Elt Ideal) main_arg2 hz (fun a => by fin_cases a <;> decide) _

theorem bC_eq (c : Dev nD) : bC m ρ c = m ((c : Thread nD τ).loc main_arg3) := by
  have hz : (fun a => (win0_3.index (0 : Fin 1)) a * main_arg3.ty.shape.size a) = fun _ => 0 :=
    funext fun a => by fin_cases a <;> decide
  exact Memref.read_access_unit_zero (Elt Ideal) main_arg3 hz (fun a => by fin_cases a <;> decide) _

/-! ## One element of one device's result -/

variable (X : IVec Cert.ReferenceIdeal.S4096x4096 8) (W : IVec Cert.ReferenceIdeal.S4096x8192 8)
  (a b : FVec Ideal Cert.ReferenceIdeal.S1 .f32)

/-- Every device holds its block of rows of `X`, its block of columns of `W`, and both scales. -/
def Parts : Prop := ∀ c : Dev nD,
  m ((c : Thread nD τ).loc main_arg0) = Layout.block ⟨2, ![1024, 4096]⟩ ⟨2, ![4096, 4096]⟩ 0 4 c X
  ∧ m ((c : Thread nD τ).loc main_arg1) = Layout.block ⟨2, ![4096, 2048]⟩ ⟨2, ![4096, 8192]⟩ 1 4 c W
  ∧ m ((c : Thread nD τ).loc main_arg2) = a ∧ m ((c : Thread nD τ).loc main_arg3) = b

/-- Column `j` of device `c`'s block of `W`. -/
def col (c : Dev nD) (j : Fin 2048) : Fin 8192 := ⟨c.val * 2048 + j.val, by have : c.val < 4 := c.isLt; omega⟩

/-- Row `r` of device `d`'s block of `X`. -/
def row (d : Dev nD) (r : Fin 1024) : Fin 4096 := ⟨d.val * 1024 + r.val, by have : d.val < 4 := d.isLt; omega⟩

variable {m X W a b}

theorem x_word (hm : Parts m X W a b) (d : Dev nD) (r : Fin 1024) (k : Fin 4096) :
    xC m ρ d (ix2 r k) = X (ix2 (row d r) k) := by
  rw [xC_eq, (hm d).1, Layout.block_apply]
  refine congrArg X ((eq_ix2 _).trans ?_)
  rfl

theorem w_word (hm : Parts m X W a b) (c : Dev nD) (k : Fin 4096) (j : Fin 2048) :
    wC m ρ c (ix2 k j) = W (ix2 k (col c j)) := by
  rw [wC_eq, (hm c).2.1, Layout.block_apply]
  refine congrArg W ((eq_ix2 _).trans ?_)
  rfl

theorem xq_word (d : Dev nD) (q : Fin 4) (r : Fin 256) (k : Fin 4096) :
    xq m ρ d q (ix2 r k) = xC m ρ d (ix2 ⟨256 * q.val + r.val, by omega⟩ k) := by
  unfold xq
  refine congrArg (xC m ρ d) ((eq_ix2 _).trans ?_)
  refine congrArg₂ ix2 (Fin.ext ?_) (Fin.ext ?_)
  · show 256 * q.val + 1 * r.val = 256 * q.val + r.val
    omega
  · show 0 + 1 * k.val = k.val
    omega

/-- A row of the result is a row of one block of one device's part of `X`. -/
theorem row_split (r : Fin 4096) : row (⟨r.val / 1024, by show _ < 4; omega⟩ : Dev nD)
    ⟨256 * (r.val % 1024 / 256) + r.val % 256, by omega⟩ = r := by
  refine Fin.ext ?_
  show r.val / 1024 * 1024 + (256 * (r.val % 1024 / 256) + r.val % 256) = r.val
  omega

/-- The value of one element where its products are exact. -/
theorem outC_apply (hm : Parts m X W a b) (c : Dev nD) (r : Fin 4096) (j : Fin 2048)
    (h : size X W r (col c j) < 2 ^ 24) :
    outC m ρ c (ix2 r j) = max (er (total X W r (col c j)) * (a (ix1 0) * b (ix1 0) : EReal)) 0 := by
  have hx : ∀ k : Fin 4096, xq m ρ (⟨r.val / 1024, by show _ < 4; omega⟩ : Dev nD) ⟨r.val % 1024 / 256, by omega⟩
      (ix2 ⟨r.val % 256, by omega⟩ k) = X (ix2 r k) := fun k => by
    rw [xq_word, x_word ρ hm, row_split]
  have hsz : size (xq m ρ (⟨r.val / 1024, by show _ < 4; omega⟩ : Dev nD) ⟨r.val % 1024 / 256, by omega⟩) (wC m ρ c)
      ⟨r.val % 256, by omega⟩ j = size X W r (col c j) :=
    Finset.sum_congr rfl fun k _ => by rw [hx, w_word ρ hm]
  have htt : total (xq m ρ (⟨r.val / 1024, by show _ < 4; omega⟩ : Dev nD) ⟨r.val % 1024 / 256, by omega⟩) (wC m ρ c)
      ⟨r.val % 256, by omega⟩ j = total X W r (col c j) :=
    Finset.sum_congr rfl fun k _ => by rw [hx, w_word ρ hm]
  have hs : scl m ρ c = (a (ix1 0) * b (ix1 0) : EReal) := by
    unfold scl
    rw [aC_eq, bC_eq, (hm c).2.2.1, (hm c).2.2.2, show (i1 : S1.Idx) = ix1 0 from (eq_ix1 _).trans rfl]
    rfl
  have hi : inBlock (ix2 r j) = ix2 ⟨r.val % 256, by omega⟩ j := (eq_ix2 _).trans rfl
  have hp := prod_apply (scl m ρ c) (xq m ρ (⟨r.val / 1024, by show _ < 4; omega⟩ : Dev nD) ⟨r.val % 1024 / 256, by omega⟩)
    (wC m ρ c) ⟨r.val % 256, by omega⟩ j (by rw [hsz]; exact h)
  rw [htt, hs, ← hi] at hp
  exact hs ▸ hp

/-- So it is the element of the device's block of the reference's value. -/
theorem outC_ref [Cert.ReferenceIdeal.Facts] (hm : Parts m X W a b) (c : Dev nD) (i : S4096x2048.Idx)
    (h : size X W (i 0) (col c (i 1)) < 2 ^ 24) :
    outC m ρ c i = (Layout.block ⟨2, ![4096, 2048]⟩ ⟨2, ![4096, 8192]⟩ 1 4 c (refVal X W a b) : S4096x2048.Idx → _) i := by
  rw [Layout.block_apply, eq_ix2 (Layout.Tiles.idx _ c i)]
  refine Eq.trans ?_ (refVal_apply X W a b (i 0) (col c (i 1))).symm
  refine Eq.trans ?_ (outC_apply ρ hm c (i 0) (i 1) h)
  exact congrArg _ (eq_ix2 i)

include ρ in
/-- Where every device's blocks meet the precondition, every element's products are exact. -/
theorem size_tame [Cert.Pre_tame_KernelIdeal.Facts] (hm : Parts m X W a b)
    (hpre : ∀ c : Dev nD,
      (Cert.Pre_tame_KernelIdeal.fn (F := Ideal) (m ((c : Thread nD τ).loc main_arg0)) (m ((c : Thread nD τ).loc main_arg1))
          (m ((c : Thread nD τ).loc main_arg2)) (m ((c : Thread nD τ).loc main_arg3))).1 = (fun _ => 1#1)
      ∧ (Cert.Pre_tame_KernelIdeal.fn (F := Ideal) (m ((c : Thread nD τ).loc main_arg0)) (m ((c : Thread nD τ).loc main_arg1))
          (m ((c : Thread nD τ).loc main_arg2)) (m ((c : Thread nD τ).loc main_arg3))).2 = (fun _ => 1#1))
    (c : Dev nD) (r : Fin 4096) (j : Fin 2048) : size X W r (col c j) < 2 ^ 24 := by
  refine size_lt X W r (col c j) ?_ ?_
  · have h := tame_rows _ _ _ _ (hpre (⟨r.val / 1024, by show _ < 4; omega⟩ : Dev nD)).1
      ⟨256 * (r.val % 1024 / 256) + r.val % 256, by omega⟩
    refine lt_of_eq_of_lt (Finset.sum_congr rfl fun k _ => ?_) h
    rw [← xC_eq m ρ, x_word ρ hm, row_split]
  · have h := tame_cols _ _ _ _ (hpre c).2 j
    refine lt_of_eq_of_lt (Finset.sum_congr rfl fun k _ => ?_) h
    rw [← wC_eq m ρ, w_word ρ hm]

end Cert.Gather

end
-- ==== Proof.lean ====
/- The proof of the claims about the ring kernel: the frames of the three programs, that the ideal program is the kernel, and
   that its result is the reference's where the int8 products are exact. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.On_exact
public import proofs.«01_k».proof.Proof.Gen.Pre_tame_KernelIdeal
public import proofs.«01_k».proof.Proof.Gen.Pre_tame_ReferenceIdeal
public import proofs.«01_k».proof.Proof.Frames
public import proofs.«01_k».proof.Proof.Algebra

@[expose] public section

noncomputable section

namespace Cert.Proof

open Idealize.ShloMosaic Idealize.SL.Sem

attribute [local instance] Cert.KernelIdeal.Gen.facts Cert.ReferenceIdeal.Gen.facts Cert.On_exact.Gen.facts
  Cert.Pre_tame_KernelIdeal.Gen.facts

/-- The kernel's result is the reference's at every element whose products are exact. -/
theorem value_on : Cert.algebraic_KernelIdeal_ReferenceIdeal_on_exact := by
  intro m g m' g' _ hm
  have hp : Cert.Gather.Parts m _ _ _ _ := hm
  refine ⟨Cert.Gather.refVal _ _ _ _, (θ_run _ _ _).mono (fun r h c => ⟨fun i hi => ?_, (h.1 c).2⟩) (Cert.Gather.run_main (F := Ideal) m g),
    (θ_run _ _ _).mono (fun r h => ⟨fun i _ => congrFun (h 0).1 i, (h 0).2⟩) (Cert.ReferenceIdeal.Value.run (F := Ideal) m' g')⟩
  rw [(h.1 c).1]
  refine Cert.Gather.outC_ref g hp c i (Cert.Gather.mask_size _ _ _ _ _ _ (Eq.trans (congrArg _ ?_) hi))
  exact Eq.symm (Eq.trans (eq_ix2 (Layout.Tiles.idx _ c i)) rfl)

/-- The kernel's result is the reference's wherever the rows and the columns are as small as the precondition says. -/
theorem value_pre : Cert.algebraic_KernelIdeal_ReferenceIdeal_pre_tame_KernelIdeal := by
  intro m g m' g' hpre hm
  have hp : Cert.Gather.Parts m _ _ _ _ := hm
  refine ⟨Cert.Gather.refVal _ _ _ _, (θ_run _ _ _).mono (fun r h c => ⟨?_, (h.1 c).2⟩) (Cert.Gather.run_main (F := Ideal) m g),
    (θ_run _ _ _).mono (fun r h => h 0) (Cert.ReferenceIdeal.Value.run (F := Ideal) m' g')⟩
  rw [(h.1 c).1]
  funext i
  exact Cert.Gather.outC_ref g hp c i (Cert.Gather.size_tame g hp hpre c _ _)

/-- Every claim of the certificate. -/
theorem claim : Cert.Claim := ⟨Cert.Kernel.Gen.facts, Cert.KernelIdeal.Gen.facts, Cert.ReferenceIdeal.Gen.facts,
  Cert.Pre_tame_KernelIdeal.Gen.facts, Cert.Pre_tame_ReferenceIdeal.Gen.facts, Cert.On_exact.Gen.facts,
  fun m g _ => Cert.Gather.run_printed _ _ (Cert.Gather.frame (F := Bits) m g),
  fun m g _ => Cert.Gather.frame (F := Ideal) m g,
  fun m g _ => Cert.Gather.frame (F := Ideal) m g,
  fun m g _ => Cert.Gather.frame_reference (F := Ideal) m g,
  fun m g _ => Cert.Gather.frame_reference (F := Ideal) m g,
  trivial, value_on, value_pre⟩

end Cert.Proof

end
